-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_bounded [hPre_inputs_bounded : Cert.Pre_inputs_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_inputs_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_bounded [hPre_inputs_bounded : Cert.Pre_inputs_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_inputs_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_inputs_bounded [hKernelIdeal : Cert.KernelIdeal.Facts] [hPre_inputs_bounded : Cert.Pre_inputs_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inputs_bounded [hReferenceIdeal : Cert.ReferenceIdeal.Facts] [hPre_inputs_bounded : Cert.Pre_inputs_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_inputs_bounded [hKernelIdeal : Cert.KernelIdeal.Facts] [hReferenceIdeal : Cert.ReferenceIdeal.Facts] [hPre_inputs_bounded : Cert.Pre_inputs_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_inputs_bounded : Cert.Pre_inputs_bounded.Facts),
    quiescent_Kernel (hKernel := hKernel)
    ∧ quiescent_KernelIdeal (hKernelIdeal := hKernelIdeal)
    ∧ quiescent_KernelIdeal_pre_inputs_bounded (hKernelIdeal := hKernelIdeal) (hPre_inputs_bounded := hPre_inputs_bounded)
    ∧ quiescent_ReferenceIdeal (hReferenceIdeal := hReferenceIdeal)
    ∧ quiescent_ReferenceIdeal_pre_inputs_bounded (hReferenceIdeal := hReferenceIdeal) (hPre_inputs_bounded := hPre_inputs_bounded)
    ∧ preserves_Kernel_KernelIdeal
    ∧ algebraic_KernelIdeal_ReferenceIdeal_pre_inputs_bounded (hKernelIdeal := hKernelIdeal) (hReferenceIdeal := hReferenceIdeal) (hPre_inputs_bounded := hPre_inputs_bounded)
-- ==== Pre_inputs_bounded.lean ====
abbrev S13x1024x10240 : Shape := ⟨3, ![13, 1024, 10240]⟩
abbrev S13x1024x5120 : Shape := ⟨3, ![13, 1024, 5120]⟩
abbrev S_ : Shape := ⟨0, ![]⟩

class Facts : Prop where
  bcast_S_S13x1024x10240 : S_.BroadcastsInDim S13x1024x10240 (![] : Fin 0 → Fin S13x1024x10240.rank)
  bcast_S_S13x1024x5120 : S_.BroadcastsInDim S13x1024x5120 (![] : Fin 0 → Fin S13x1024x5120.rank)

variable [Facts]

def fn {F : FTy → Type} [FloatOps F] (main_arg0 : FVec F S13x1024x10240 .bf16) (main_arg1 : FVec F S13x1024x5120 .bf16) : IVec S13x1024x10240 1 × IVec S13x1024x5120 1 :=
  let main_v0 : FVec F S13x1024x10240 .bf16 := Host.absf main_arg0
  let main_cst : FVec F S_ .bf16 := constant S_ .bf16 0x5F80#16
  let main_v1 : FVec F S13x1024x10240 .bf16 := broadcastInDim S13x1024x10240 ![] bcast_S_S13x1024x10240 main_cst
  let main_v2 : IVec S13x1024x10240 1 := cmpf .ole main_v0 main_v1
  let main_v3 : FVec F S13x1024x5120 .bf16 := Host.absf main_arg1
  let main_cst_0 : FVec F S_ .bf16 := constant S_ .bf16 0x5F80#16
  let main_v4 : FVec F S13x1024x5120 .bf16 := broadcastInDim S13x1024x5120 ![] bcast_S_S13x1024x5120 main_cst_0
  let main_v5 : IVec S13x1024x5120 1 := cmpf .ole main_v3 main_v4
  (main_v2, main_v5)
-- ==== Kernel.lean ====
abbrev S13x1024x10240 : Shape := ⟨3, ![13, 1024, 10240]⟩
abbrev S13x1024x5120 : Shape := ⟨3, ![13, 1024, 5120]⟩
abbrev S13312x10240 : Shape := ⟨2, ![13312, 10240]⟩
abbrev S13312x5120 : Shape := ⟨2, ![13312, 5120]⟩
abbrev S13312x80 : Shape := ⟨2, ![13312, 80]⟩
abbrev S10240x13312 : Shape := ⟨2, ![10240, 13312]⟩
abbrev S10240x104 : Shape := ⟨2, ![10240, 104]⟩
abbrev S128x10240 : Shape := ⟨2, ![128, 10240]⟩
abbrev S128x5120 : Shape := ⟨2, ![128, 5120]⟩
abbrev S128x80 : Shape := ⟨2, ![128, 80]⟩
abbrev S10240x128 : Shape := ⟨2, ![10240, 128]⟩
abbrev S104x10240 : Shape := ⟨2, ![104, 10240]⟩
abbrev S8x128 : Shape := ⟨2, ![8, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S104x128 : Shape := ⟨2, ![104, 128]⟩
abbrev S128x104 : Shape := ⟨2, ![128, 104]⟩

abbrev nBuf : Space → Nat
  | .hbm => 8
  | .vmem => 12
  | .smem => 0
  | _ => 0

abbrev bufTy : (tb : Table) → Fin (tcTables nBuf tb) → BufTy
  | .hbm, ⟨0, _⟩ => ⟨S13x1024x10240, .bf16⟩
  | .hbm, ⟨1, _⟩ => ⟨S13x1024x5120, .bf16⟩
  | .hbm, ⟨2, _⟩ => ⟨S13312x10240, .bf16⟩
  | .hbm, ⟨3, _⟩ => ⟨S13312x5120, .bf16⟩
  | .hbm, ⟨4, _⟩ => ⟨S13312x10240, .fp8e4m3⟩
  | .hbm, ⟨5, _⟩ => ⟨S13312x80, .f32⟩
  | .hbm, ⟨6, _⟩ => ⟨S10240x13312, .fp8e4m3⟩
  | .hbm, ⟨7, _⟩ => ⟨S10240x104, .f32⟩
  | .local _ .vmem, ⟨0, _⟩ => ⟨S128x10240, .bf16⟩
  | .local _ .vmem, ⟨1, _⟩ => ⟨S128x10240, .bf16⟩
  | .local _ .vmem, ⟨2, _⟩ => ⟨S128x5120, .bf16⟩
  | .local _ .vmem, ⟨3, _⟩ => ⟨S128x5120, .bf16⟩
  | .local _ .vmem, ⟨4, _⟩ => ⟨S128x10240, .fp8e4m3⟩
  | .local _ .vmem, ⟨5, _⟩ => ⟨S128x10240, .fp8e4m3⟩
  | .local _ .vmem, ⟨6, _⟩ => ⟨S128x80, .f32⟩
  | .local _ .vmem, ⟨7, _⟩ => ⟨S128x80, .f32⟩
  | .local _ .vmem, ⟨8, _⟩ => ⟨S10240x128, .fp8e4m3⟩
  | .local _ .vmem, ⟨9, _⟩ => ⟨S10240x128, .fp8e4m3⟩
  | .local _ .vmem, ⟨10, _⟩ => ⟨S10240x104, .f32⟩
  | .local _ .vmem, ⟨11, _⟩ => ⟨S104x10240, .f32⟩
  | _, _ => ⟨S13x1024x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![104], ![false]⟩

def k0_mult1 (i : grid0.Coords) : BitVec 32 :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  v1
@[reducible] def k0_t1_loop : Scf.Loop 32 :=
  let c0_i32 : BitVec 32 := 0#32
  let c40_i32 : BitVec 32 := 40#32
  let v6 : BitVec 32 := Scalar.addi c0_i32 c40_i32
  let c1_i32 : BitVec 32 := 1#32
  ⟨c0_i32, v6, c1_i32⟩
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v12 : BitVec 32 := Scalar.muli arg8 c128_i32
  v12
def k0_off1 (k0_t1 : Fin k0_t1_loop.trips) : Fin 2 → Nat :=
  let c0_4 : Index := 0#32
  let c0_i32 : BitVec 32 := 0#32
  let c1_i32 : BitVec 32 := 1#32
  let arg8 : BitVec 32 := Scf.iv c0_i32 c1_i32 k0_t1
  let c128_i32 : BitVec 32 := 128#32
  let v12 : BitVec 32 := Scalar.muli arg8 c128_i32
  let v13 : BitVec 32 := v12
  let v14 : Index := Scalar.indexCast v13
  ![0, v14.toNat]
def k0_off2 (k0_t1 : Fin k0_t1_loop.trips) : Fin 2 → Nat :=
  let c0_5 : Index := 0#32
  let c5120_i32 : BitVec 32 := 5120#32
  let c0_i32 : BitVec 32 := 0#32
  let c1_i32 : BitVec 32 := 1#32
  let arg8 : BitVec 32 := Scf.iv c0_i32 c1_i32 k0_t1
  let c128_i32 : BitVec 32 := 128#32
  let v12 : BitVec 32 := Scalar.muli arg8 c128_i32
  let v13 : BitVec 32 := v12
  let v18 : BitVec 32 := Scalar.addi c5120_i32 v13
  let v19 : Index := Scalar.indexCast v18
  ![0, v19.toNat]
def k0_off3 (k0_t1 : Fin k0_t1_loop.trips) : Fin 2 → Nat :=
  let c0_6 : Index := 0#32
  let c0_i32 : BitVec 32 := 0#32
  let c1_i32 : BitVec 32 := 1#32
  let arg8 : BitVec 32 := Scf.iv c0_i32 c1_i32 k0_t1
  let c128_i32 : BitVec 32 := 128#32
  let v12 : BitVec 32 := Scalar.muli arg8 c128_i32
  let v13 : BitVec 32 := v12
  let v23 : Index := Scalar.indexCast v13
  ![0, v23.toNat]
def k0_mult3 (k0_t1 : Fin k0_t1_loop.trips) : BitVec 32 :=
  let c0_i32_11 : BitVec 32 := 0#32
  let c0_i32 : BitVec 32 := 0#32
  let c1_i32 : BitVec 32 := 1#32
  let arg8 : BitVec 32 := Scf.iv c0_i32 c1_i32 k0_t1
  let c128_i32 : BitVec 32 := 128#32
  let v12 : BitVec 32 := Scalar.muli arg8 c128_i32
  let v13 : BitVec 32 := v12
  let v41 : BitVec 32 := Scalar.addi c0_i32_11 v13
  v41
def k0_off4 (k0_t1 : Fin k0_t1_loop.trips) (c0_i32_11 : BitVec 32) : Fin 2 → Nat :=
  let c0_31 : Index := 0#32
  let c0_i32 : BitVec 32 := 0#32
  let c1_i32 : BitVec 32 := 1#32
  let arg8 : BitVec 32 := Scf.iv c0_i32 c1_i32 k0_t1
  let c128_i32 : BitVec 32 := 128#32
  let v12 : BitVec 32 := Scalar.muli arg8 c128_i32
  let v13 : BitVec 32 := v12
  let v41 : BitVec 32 := Scalar.addi c0_i32_11 v13
  let v42 : BitVec 32 := v41
  let v131 : Index := Scalar.indexCast v42
  ![0, v131.toNat]
def k0_off5 (i : grid0.Coords) (k0_t1 : Fin k0_t1_loop.trips) (c0_i32_11 : BitVec 32) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v219 : Index := Scalar.indexCast v2
  let c0_i32 : BitVec 32 := 0#32
  let c1_i32 : BitVec 32 := 1#32
  let arg8 : BitVec 32 := Scf.iv c0_i32 c1_i32 k0_t1
  let c128_i32 : BitVec 32 := 128#32
  let v12 : BitVec 32 := Scalar.muli arg8 c128_i32
  let v13 : BitVec 32 := v12
  let v41 : BitVec 32 := Scalar.addi c0_i32_11 v13
  let v42 : BitVec 32 := v41
  let v220 : Index := Scalar.indexCast v42
  ![v219.toNat, v220.toNat]
def k0_off6 (k0_t1 : Fin k0_t1_loop.trips) (c0_i32_11 : BitVec 32) : Fin 2 → Nat :=
  let c0_i32 : BitVec 32 := 0#32
  let c1_i32 : BitVec 32 := 1#32
  let arg8 : BitVec 32 := Scf.iv c0_i32 c1_i32 k0_t1
  let c128_i32 : BitVec 32 := 128#32
  let v12 : BitVec 32 := Scalar.muli arg8 c128_i32
  let v13 : BitVec 32 := v12
  let v41 : BitVec 32 := Scalar.addi c0_i32_11 v13
  let v42 : BitVec 32 := v41
  let v241 : Index := Scalar.indexCast v42
  let c0_62 : Index := 0#32
  ![v241.toNat, 0]
def k0_mult4 (k0_t1 : Fin k0_t1_loop.trips) : BitVec 32 :=
  let c5120_i32_63 : BitVec 32 := 5120#32
  let c0_i32 : BitVec 32 := 0#32
  let c1_i32 : BitVec 32 := 1#32
  let arg8 : BitVec 32 := Scf.iv c0_i32 c1_i32 k0_t1
  let c128_i32 : BitVec 32 := 128#32
  let v12 : BitVec 32 := Scalar.muli arg8 c128_i32
  let v13 : BitVec 32 := v12
  let v243 : BitVec 32 := Scalar.addi c5120_i32_63 v13
  v243
def k0_cond1 (i : grid0.Coords) : BitVec 1 :=
  let arg0 : BitVec 32 := BitVec.ofNat 32 (i 0).val
  let c103_i32 : BitVec 32 := 103#32
  let v9 : BitVec 1 := Scalar.cmpi .eq arg0 c103_i32
  let v10 : BitVec 32 := Scalar.extui v9
  let c0_i32_3 : BitVec 32 := 0#32
  let v11 : BitVec 1 := Scalar.cmpi .ne v10 c0_i32_3
  v11

@[reducible] def k0_t2_loop : Scf.Loop 32 :=
  let c0_i32_4 : BitVec 32 := 0#32
  let c80_i32 : BitVec 32 := 80#32
  let v12 : BitVec 32 := Scalar.addi c0_i32_4 c80_i32
  let c1_i32_5 : BitVec 32 := 1#32
  ⟨c0_i32_4, v12, c1_i32_5⟩
def k0_mult5 (k0_t2 : Fin k0_t2_loop.trips) : BitVec 32 :=
  let c0_i32_4 : BitVec 32 := 0#32
  let c1_i32_5 : BitVec 32 := 1#32
  let arg8 : BitVec 32 := Scf.iv c0_i32_4 c1_i32_5 k0_t2
  let c128_i32 : BitVec 32 := 128#32
  let v13 : BitVec 32 := Scalar.muli arg8 c128_i32
  v13
def k0_off7 (k0_t2 : Fin k0_t2_loop.trips) : Fin 2 → Nat :=
  let c0_7 : Index := 0#32
  let c0_i32_4 : BitVec 32 := 0#32
  let c1_i32_5 : BitVec 32 := 1#32
  let arg8 : BitVec 32 := Scf.iv c0_i32_4 c1_i32_5 k0_t2
  let c128_i32 : BitVec 32 := 128#32
  let v13 : BitVec 32 := Scalar.muli arg8 c128_i32
  let v14 : BitVec 32 := v13
  let v15 : Index := Scalar.indexCast v14
  ![0, v15.toNat]
def k0_off8 (k0_t2 : Fin k0_t2_loop.trips) : Fin 2 → Nat :=
  let c0_i32_4 : BitVec 32 := 0#32
  let c1_i32_5 : BitVec 32 := 1#32
  let arg8 : BitVec 32 := Scf.iv c0_i32_4 c1_i32_5 k0_t2
  let c128_i32 : BitVec 32 := 128#32
  let v13 : BitVec 32 := Scalar.muli arg8 c128_i32
  let v14 : BitVec 32 := v13
  let v18 : Index := Scalar.indexCast v14
  let c0_8 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x10240 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10240x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S10240x104 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S13x1024x10240 : Shape := ⟨3, ![13, 1024, 10240]⟩
abbrev S13x1024x5120 : Shape := ⟨3, ![13, 1024, 5120]⟩
abbrev S13312x10240 : Shape := ⟨2, ![13312, 10240]⟩
abbrev S13312x5120 : Shape := ⟨2, ![13312, 5120]⟩
abbrev S13312x80 : Shape := ⟨2, ![13312, 80]⟩
abbrev S10240x13312 : Shape := ⟨2, ![10240, 13312]⟩
abbrev S10240x104 : Shape := ⟨2, ![10240, 104]⟩
abbrev S13312x80x128 : Shape := ⟨3, ![13312, 80, 128]⟩
abbrev S13312x80x1 : Shape := ⟨3, ![13312, 80, 1]⟩
abbrev S104x128x10240 : Shape := ⟨3, ![104, 128, 10240]⟩
abbrev S104x10240 : Shape := ⟨2, ![104, 10240]⟩
abbrev S104x1x10240 : Shape := ⟨3, ![104, 1, 10240]⟩

abbrev nBuf : Space → Nat
  | .hbm => 8
  | .vmem => 6
  | .smem => 0
  | _ => 0

abbrev bufTy : (tb : Table) → Fin (tcTables nBuf tb) → BufTy
  | .hbm, ⟨0, _⟩ => ⟨S13x1024x10240, .bf16⟩
  | .hbm, ⟨1, _⟩ => ⟨S13x1024x5120, .bf16⟩
  | .hbm, ⟨2, _⟩ => ⟨S13312x10240, .bf16⟩
  | .hbm, ⟨3, _⟩ => ⟨S13312x5120, .bf16⟩
  | .hbm, ⟨4, _⟩ => ⟨S13312x10240, .fp8e4m3⟩
  | .hbm, ⟨5, _⟩ => ⟨S13312x80, .f32⟩
  | .hbm, ⟨6, _⟩ => ⟨S10240x13312, .fp8e4m3⟩
  | .hbm, ⟨7, _⟩ => ⟨S10240x104, .f32⟩
  | .local _ .vmem, ⟨0, _⟩ => ⟨S13312x10240, .bf16⟩
  | .local _ .vmem, ⟨1, _⟩ => ⟨S13312x5120, .bf16⟩
  | .local _ .vmem, ⟨2, _⟩ => ⟨S13312x10240, .fp8e4m3⟩
  | .local _ .vmem, ⟨3, _⟩ => ⟨S13312x80, .f32⟩
  | .local _ .vmem, ⟨4, _⟩ => ⟨S10240x13312, .fp8e4m3⟩
  | .local _ .vmem, ⟨5, _⟩ => ⟨S10240x104, .f32⟩
  | _, _ => ⟨S13x1024x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S13312x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S13312x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13312x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S13312x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10240x13312 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10240x104 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Trip.lean ====
module

public import proofs.«01_k».proof.Proof.Gen.Kernel.Frame
public import proofs.«01_k».proof.Proof.Gen.Kernel.Loops
public import Idealize.ShloMosaic.Lib.VecWindow
public import Idealize.ShloMosaic.Lib.ValueIdx

/-! One trip of the kernel's loop over pairs of 128×128 tiles, by value: what each buffer holds after it is what
it held before with one window per half replaced by a plain function of the two input windows. -/

@[expose] public section

set_option maxRecDepth 16384

noncomputable section

namespace Cert.Kernel.Hand

open Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tile functions -/

/-- One step of the search for an exponent field: the bit `b` is set in `f` where `q` is at least the float whose
    exponent field is `f` with that bit. -/
def stepF {s : Shape} (q : FVec F s .f32) (b : BitVec 32) (f : IVec s 32) : IVec s 32 :=
  select (cmpf .oge q (bitcastToFloat .f32 (shli (ori f (broadcast s b)) (broadcast s 23#32)))) (ori f (broadcast s b)) f
/-- The exponent field of every element. -/
def fieldV {s : Shape} (q : FVec F s .f32) : IVec s 32 :=
  stepF q 1#32 (stepF q 2#32 (stepF q 4#32 (stepF q 8#32 (stepF q 16#32 (stepF q 32#32 (stepF q 64#32 (stepF q 128#32 (broadcast s 0#32))))))))
/-- The exponent of the scale of every element. -/
def expoV {s : Shape} (q : FVec F s .f32) : IVec s 32 :=
  select (ori (cmpi .eq (fieldV q) (broadcast s 0#32)) (cmpi .eq (fieldV q) (broadcast s 255#32))) (broadcast s 0#32)
    (subi (fieldV q) (broadcast s 126#32))
/-- The scale of every element. -/
def scaleV {s : Shape} (q : FVec F s .f32) : FVec F s .f32 :=
  bitcastToFloat .f32 (shli (addi (expoV q) (broadcast s 127#32)) (broadcast s 23#32))
/-- The reciprocal of the scale of every element. -/
def invV {s : Shape} (q : FVec F s .f32) : FVec F s .f32 :=
  bitcastToFloat .f32 (shli (subi (broadcast s 127#32) (expoV q)) (broadcast s 23#32))

/-- A tile of the gradient of the gate. -/
def dG (a b d : Vec F S128x128 .bf16) : FVec F S128x128 .f32 := k0_pay9 a b d
/-- A tile of the gradient of the other half. -/
def dU (a d : Vec F S128x128 .bf16) : FVec F S128x128 .f32 := k0_pay8 a d
/-- The largest magnitude of every row, over 448. -/
def rowQ (v : FVec F S128x128 .f32) : FVec F S128x1 .f32 := k0_pay30 v
/-- The largest magnitude of every column, over 448. -/
def colQ (v : FVec F S128x128 .f32) : FVec F S1x128 .f32 := k0_pay39 (absf v)
/-- Clipped to the range of the codes. -/
def clipV (v : FVec F S128x128 .f32) : FVec F S128x128 .f32 :=
  minimumf (broadcast S128x128 (Scalar.ofBits .f32 0x43E00000#32)) (maximumf (broadcast S128x128 (Scalar.ofBits .f32 0xC3E00000#32)) v)
/-- The codes of a tile scaled by rows. -/
def rowCodes (v : FVec F S128x128 .f32) : FVec F S128x128 .fp8e4m3 :=
  truncf .fp8e4m3 (clipV (mulf v (broadcastTo S128x128 (invV (rowQ v)) broadcasts_S128x1_S128x128))) bitsLt_fp8e4m3_f32
/-- The codes of a tile scaled by columns, transposed. -/
def colCodes (v : FVec F S128x128 .f32) : FVec F S128x128 .fp8e4m3 :=
  transpose S128x128 [1, 0] (truncf .fp8e4m3 (clipV (mulf v (broadcastTo S128x128 (invV (colQ v)) broadcasts_S1x128_S128x128))) bitsLt_fp8e4m3_f32)
    transposes_S128x128_p1_0_S128x128
/-- The row scales laid over the 80 columns of the carried array at column `g`. -/
def putScale (v4 : IVec S128x80 32) (g : BitVec 32) (v : FVec F S128x128 .f32) (acc : FVec F S128x80 .f32) : FVec F S128x80 .f32 :=
  select (cmpi .eq v4 (broadcast S128x80 g)) (broadcastTo S128x80 (shapeCast S128x1 (scaleV (rowQ v)) shapeCasts_S128x1_S128x1) broadcasts_S128x1_S128x80) acc
/-- The column scales laid over one of eight rows. -/
def putRow (v3 : IVec S8x128 32) (r : BitVec 32) (v : FVec F S128x128 .f32) (old : Vec F S8x128 .f32) : FVec F S8x128 .f32 :=
  shapeCast S8x128 (select (cmpi .eq v3 (broadcast S8x128 r)) (broadcastTo S8x128 (shapeCast S1x128 (scaleV (colQ v)) shapeCasts_S1x128_S1x128) broadcasts_S1x128_S8x128) old) shapeCasts_S8x128_S8x128

/-! ## The offsets of the scratch -/

theorem k0_off5_eq_0 (i : grid0.Coords) (k : Fin k0_t1_loop.trips) : k0_off5 i k 0#32 = ![8 * ((i 0).val / 8), 128 * k.val] := by
  revert i k; decide +kernel
theorem k0_off5_eq_1 (i : grid0.Coords) (k : Fin k0_t1_loop.trips) : k0_off5 i k 5120#32 = ![8 * ((i 0).val / 8), 128 * k.val + 5120] := by
  revert i k; decide +kernel

instance (i : grid0.Coords) (k : Fin k0_t1_loop.trips) : ClosedOff (k0_off5 i k 0#32) := ⟨_, k0_off5_eq_0 i k⟩
instance (i : grid0.Coords) (k : Fin k0_t1_loop.trips) : ClosedOff (k0_off5 i k 5120#32) := ⟨_, k0_off5_eq_1 i k⟩

theorem k_lt (k : Fin k0_t1_loop.trips) : k.val < 40 := Nat.lt_of_lt_of_le k.isLt k0_t1_abs.2.1

theorem i_lt (i : grid0.Coords) : (i 0).val < 104 := (i 0).isLt
theorem inb7_0 (i : grid0.Coords) {k : ℕ} (hk : k < 40) : ∀ a : Fin 2, ![8 * ((i 0).val / 8), 128 * k] a + S8x128.size a ≤ S104x10240.size a := by
  have := i_lt i
  intro a; fin_cases a <;> simp [S8x128, S104x10240] <;> omega
theorem inb7_1 (i : grid0.Coords) {k : ℕ} (hk : k < 40) : ∀ a : Fin 2, ![8 * ((i 0).val / 8), 128 * k + 5120] a + S8x128.size a ≤ S104x10240.size a := by
  have := i_lt i
  intro a; fin_cases a <;> simp [S8x128, S104x10240] <;> omega

theorem inbx_0 {k : ℕ} (hk : k < 40) : ∀ a : Fin 2, ![0, 128 * k] a + S128x128.size a ≤ S128x10240.size a := by
  intro a; fin_cases a <;> simp [S128x128, S128x10240] <;> omega
theorem inbx_1 {k : ℕ} (hk : k < 40) : ∀ a : Fin 2, ![0, 128 * k + 5120] a + S128x128.size a ≤ S128x10240.size a := by
  intro a; fin_cases a <;> simp [S128x128, S128x10240] <;> omega
theorem inbd {k : ℕ} (hk : k < 40) : ∀ a : Fin 2, ![0, 128 * k] a + S128x128.size a ≤ S128x5120.size a := by
  intro a; fin_cases a <;> simp [S128x128, S128x5120] <;> omega
theorem off4_0 (k : Fin k0_t1_loop.trips) : k0_off4 k 0#32 = ![0, 128 * k.val] := by revert k; decide +kernel
theorem off4_1 (k : Fin k0_t1_loop.trips) : k0_off4 k 5120#32 = ![0, 128 * k.val + 5120] := by revert k; decide +kernel
theorem off6_0 (k : Fin k0_t1_loop.trips) : k0_off6 k 0#32 = ![128 * k.val, 0] := by revert k; decide +kernel
theorem off6_1 (k : Fin k0_t1_loop.trips) : k0_off6 k 5120#32 = ![128 * k.val + 5120, 0] := by revert k; decide +kernel

/-! ## The trip -/

variable (c : Dev nD) (i : grid0.Coords) (arg1 : Memref sig .tc .vmem S128x10240 .bf16) (harg1 : arg1.IsWhole) (arg2 : Memref sig .tc .vmem S128x5120 .bf16) (harg2 : arg2.IsWhole) (arg3 : Memref sig .tc .vmem S128x10240 .fp8e4m3) (harg3 : arg3.IsWhole) (arg4 : Memref sig .tc .vmem S128x80 .f32) (harg4 : arg4.IsWhole) (arg5 : Memref sig .tc .vmem S10240x128 .fp8e4m3) (harg5 : arg5.IsWhole) (arg6 : Memref sig .tc .vmem S10240x104 .f32) (harg6 : arg6.IsWhole) (arg7 : Memref sig .tc .vmem S104x10240 .f32) (harg7 : arg7.IsWhole)

/-- What a trip of the tile loop touches, by value. -/
abbrev Trip (x : Vec F S128x10240 .bf16) (d : Vec F S128x5120 .bf16) (y3 : Vec F S128x10240 .fp8e4m3) (y5 : Vec F S10240x128 .fp8e4m3) (y7 : Vec F S104x10240 .f32) : sProp 𝕄 :=
  iprop(owns (c : Thread nD τ) arg1 fullShare x ∗ owns (c : Thread nD τ) arg2 fullShare d
    ∗ owns (c : Thread nD τ) arg3 fullShare y3 ∗ owns (c : Thread nD τ) arg5 fullShare y5
    ∗ owns (c : Thread nD τ) arg7 fullShare y7)

/-- The gate tile of trip `k`. -/
def gTile (x : Vec F S128x10240 .bf16) (d : Vec F S128x5120 .bf16) (k : ℕ) (hk : k < 40) : FVec F S128x128 .f32 :=
  dG (VecWindow.window x ![0, 128 * k] S128x128.size (inbx_0 hk))
    (VecWindow.window x ![0, 128 * k + 5120] S128x128.size (inbx_1 hk))
    (VecWindow.window d ![0, 128 * k] S128x128.size (inbd hk))
/-- The other half's tile of trip `k`. -/
def uTile (x : Vec F S128x10240 .bf16) (d : Vec F S128x5120 .bf16) (k : ℕ) (hk : k < 40) : FVec F S128x128 .f32 :=
  dU (VecWindow.window x ![0, 128 * k] S128x128.size (inbx_0 hk))
    (VecWindow.window d ![0, 128 * k] S128x128.size (inbd hk))

set_option maxHeartbeats 8000000 in
theorem trip (E : Set ℕ) (x : Vec F S128x10240 .bf16) (d : Vec F S128x5120 .bf16) (y3 : Vec F S128x10240 .fp8e4m3) (y5 : Vec F S10240x128 .fp8e4m3) (y7 : Vec F S104x10240 .f32)
    (k : Fin k0_t1_loop.trips) (acc : FVec F S128x80 .f32) (v4 : IVec S128x80 32) :
    Trip c arg1 arg2 arg3 arg5 arg7 x d y3 y5 y7
    ⊢ wp frame (wpE (defs₀ (F := F)) Variants.none c none) E (k0_t1_body (F := F) i arg1 harg1 arg2 harg2 arg3 harg3 arg4 harg4 arg5 harg5 arg6 harg6 arg7 harg7
        (BitVec.ofNat 32 (i 0).val) (Scalar.shli (Scalar.shrui (BitVec.ofNat 32 (i 0).val) 3#32) 3#32) (iota .tc S8x128 32 [0] iota_S8x128_d0_w32) v4 k acc)
        (fun acc' => iprop(⌜acc' = putScale v4 (Scalar.addi 40#32 (Scf.iv 0#32 1#32 k)) (uTile x d k (k_lt k)) (putScale v4 (Scalar.addi 0#32 (Scf.iv 0#32 1#32 k)) (gTile x d k (k_lt k)) acc)⌝ ∗
          Trip c arg1 arg2 arg3 arg5 arg7 x d
            (VecWindow.put (VecWindow.put y3 ![0, 128 * k.val] S128x128.size (rowCodes (gTile x d k (k_lt k)))) ![0, 128 * k.val + 5120] S128x128.size (rowCodes (uTile x d k (k_lt k))))
            (VecWindow.put (VecWindow.put y5 ![128 * k.val, 0] S128x128.size (colCodes (gTile x d k (k_lt k)))) ![128 * k.val + 5120, 0] S128x128.size (colCodes (uTile x d k (k_lt k))))
            (VecWindow.put (VecWindow.put y7 ![8 * ((i 0).val / 8), 128 * k.val] S8x128.size
                (putRow (iota .tc S8x128 32 [0] iota_S8x128_d0_w32) (Scalar.subi (BitVec.ofNat 32 (i 0).val) (Scalar.shli (Scalar.shrui (BitVec.ofNat 32 (i 0).val) 3#32) 3#32)) (gTile x d k (k_lt k))
                  (VecWindow.window y7 ![8 * ((i 0).val / 8), 128 * k.val] S8x128.size (inb7_0 i (k_lt k)))))
              ![8 * ((i 0).val / 8), 128 * k.val + 5120] S8x128.size
                (putRow (iota .tc S8x128 32 [0] iota_S8x128_d0_w32) (Scalar.subi (BitVec.ofNat 32 (i 0).val) (Scalar.shli (Scalar.shrui (BitVec.ofNat 32 (i 0).val) 3#32) 3#32)) (uTile x d k (k_lt k))
                  (VecWindow.window y7 ![8 * ((i 0).val / 8), 128 * k.val + 5120] S8x128.size (inb7_1 i (k_lt k))))))) := by
  have hk : k.val < 40 := k_lt k
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold Trip owns
  iintro ⟨⟨%f1, %h1, H1⟩, ⟨%f2, %h2, H2⟩, ⟨%f3, %h3, H3⟩, ⟨%f5, %h5, H5⟩, ⟨%f7, %h7, H7⟩⟩
  subst h1 h2 h3 h5 h7
  sl_exec
  sl_step
  have e1 : View.readAt (Elt F) arg1.view (Rect.unit (s := S128x10240) (k0_off1 k) S128x128.size (k0_off1_inb k)).toLoadRect f1 = VecWindow.window (arg1.view.read (Elt F) f1) ![0, 128 * k.val] S128x128.size (inbx_0 hk) :=
    View.readAt_unit _ _ _ (k0_off1_eq k) _
  have e2 : View.readAt (Elt F) arg1.view (Rect.unit (s := S128x10240) (k0_off2 k) S128x128.size (k0_off2_inb k)).toLoadRect f1 = VecWindow.window (arg1.view.read (Elt F) f1) ![0, 128 * k.val + 5120] S128x128.size (inbx_1 hk) :=
    View.readAt_unit _ _ _ (k0_off2_eq k) _
  have e3 : View.readAt (Elt F) arg2.view (Rect.unit (s := S128x5120) (k0_off3 k) S128x128.size (k0_off3_inb k)).toLoadRect f2 = VecWindow.window (arg2.view.read (Elt F) f2) ![0, 128 * k.val] S128x128.size (inbd hk) :=
    View.readAt_unit _ _ _ (k0_off3_eq k) _
  have hG : gTile (arg1.view.read (Elt F) f1) (arg2.view.read (Elt F) f2) k hk = dG (View.readAt (Elt F) arg1.view (Rect.unit (s := S128x10240) (k0_off1 k) S128x128.size (k0_off1_inb k)).toLoadRect f1)
      (View.readAt (Elt F) arg1.view (Rect.unit (s := S128x10240) (k0_off2 k) S128x128.size (k0_off2_inb k)).toLoadRect f1)
      (View.readAt (Elt F) arg2.view (Rect.unit (s := S128x5120) (k0_off3 k) S128x128.size (k0_off3_inb k)).toLoadRect f2) := by rw [e1, e2, e3]; rfl
  have hU : uTile (arg1.view.read (Elt F) f1) (arg2.view.read (Elt F) f2) k hk = dU (View.readAt (Elt F) arg1.view (Rect.unit (s := S128x10240) (k0_off1 k) S128x128.size (k0_off1_inb k)).toLoadRect f1)
      (View.readAt (Elt F) arg2.view (Rect.unit (s := S128x5120) (k0_off3 k) S128x128.size (k0_off3_inb k)).toLoadRect f2) := by rw [e1, e3]; rfl
  isplitr
  · ipureintro
    rw [hG, hU]
    rfl
  isplitl [H1]
  · iexists f1; isplitr
    · ipureintro; rfl
    · iexact H1
  isplitl [H2]
  · iexists f2; isplitr
    · ipureintro; rfl
    · iexact H2
  isplitl [H3]
  · iexists _; isplitr; rotate_left; · iexact H3
    ipureintro
    rw [hG, hU, View.read_writes_cons_put arg3.view f3 _ _ _ (off4_1 k), View.read_writes_cons_put arg3.view f3 _ _ _ (off4_0 k)]
    rfl
  isplitl [H5]
  · iexists _; isplitr; rotate_left; · iexact H5
    ipureintro
    rw [hG, hU, View.read_writes_cons_put arg5.view f5 _ _ _ (off6_1 k), View.read_writes_cons_put arg5.view f5 _ _ _ (off6_0 k)]
    rfl
  · iexists _; isplitr; rotate_left; · iexact H7
    ipureintro
    have e4 : View.readAt (Elt F) arg7.view (Rect.unit (s := S104x10240) (k0_off5 i k 0#32) S8x128.size (k0_off5_inb i k 0)).toLoadRect f7 = VecWindow.window (arg7.view.read (Elt F) f7) ![8 * ((i 0).val / 8), 128 * k.val] S8x128.size (inb7_0 i hk) :=
      View.readAt_unit _ _ _ (k0_off5_eq_0 i k) _
    have e5 : View.readAt (Elt F) arg7.view (Rect.unit (s := S104x10240) (k0_off5 i k 5120#32) S8x128.size (k0_off5_inb i k 1)).toLoadRect f7 = VecWindow.window (arg7.view.read (Elt F) f7) ![8 * ((i 0).val / 8), 128 * k.val + 5120] S8x128.size (inb7_1 i hk) :=
      View.readAt_unit _ _ _ (k0_off5_eq_1 i k) _
    rw [hG, hU, ← e4, ← e5, View.read_writes_cons_put arg7.view f7 _ _ _ (k0_off5_eq_1 i k), View.read_writes_cons_put arg7.view f7 _ _ _ (k0_off5_eq_0 i k)]
    rfl

end Cert.Kernel.Hand
-- ==== Proof.Kernel.Block.lean ====
module

public import proofs.«01_k».proof.Proof.Kernel.Trip
public import Idealize.ShloMosaic.Lib.ValueLayout
public import Idealize.ShloMosaic.Lib.WordCmp
public import Idealize.ShloMosaic.Lib.Pipeline.Value

/-! What the whole tile loop leaves in each buffer for one block of 128 rows, and what the final loop leaves in the
transposed scales, both as plain functions. -/

@[expose] public section

set_option maxRecDepth 16384

noncomputable section

namespace Cert.Kernel.Hand

open Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The results of one block -/

/-- Tile `g` of the 80 tiles of a block's gradient. -/
def tileOf (x : Vec F S128x10240 .bf16) (d : Vec F S128x5120 .bf16) (g : ℕ) : FVec F S128x128 .f32 :=
  if h : g < 40 then gTile x d g h else if h' : g - 40 < 40 then uTile x d (g - 40) h' else uTile x d 0 (by omega)

theorem tileOf_g (x : Vec F S128x10240 .bf16) (d : Vec F S128x5120 .bf16) {g k : ℕ} (hk : k < 40) (e : g = k) : tileOf x d g = gTile x d k hk := by
  subst e; exact dif_pos hk
theorem tileOf_u (x : Vec F S128x10240 .bf16) (d : Vec F S128x5120 .bf16) {g k : ℕ} (hk : k < 40) (e : g = k + 40) : tileOf x d g = uTile x d k hk := by
  subst e
  unfold tileOf
  rw [dif_neg (by omega)]
  simp only [Nat.add_sub_cancel]
  exact dif_pos hk

/-- The row codes of the block. -/
def rcV (x : Vec F S128x10240 .bf16) (d : Vec F S128x5120 .bf16) : Vec F S128x10240 .fp8e4m3 := fun y =>
  rowCodes (tileOf x d ((y 1).val / 128)) (ix2 (n0 := 128) (n1 := 128) (y 0) ⟨(y 1).val % 128, Nat.mod_lt _ (by decide)⟩)
/-- The transposed column codes of the block. -/
def ccV (x : Vec F S128x10240 .bf16) (d : Vec F S128x5120 .bf16) : Vec F S10240x128 .fp8e4m3 := fun y =>
  colCodes (tileOf x d ((y 0).val / 128)) (ix2 (n0 := 128) (n1 := 128) ⟨(y 0).val % 128, Nat.mod_lt _ (by decide)⟩ (y 1))
/-- The row scales of the block. -/
def rsV (x : Vec F S128x10240 .bf16) (d : Vec F S128x5120 .bf16) : Vec F S128x80 .f32 := fun y =>
  scaleV (rowQ (tileOf x d (y 1).val)) (ix2 (n0 := 128) (n1 := 1) (y 0) 0)
/-- The column scales of the block. -/
def csV (x : Vec F S128x10240 .bf16) (d : Vec F S128x5120 .bf16) (j : Fin 10240) : Elt F .f32 :=
  scaleV (colQ (tileOf x d (j.val / 128))) (ix2 (n0 := 1) (n1 := 128) 0 ⟨j.val % 128, Nat.mod_lt _ (by decide)⟩)

/-- The row codes before trip `k`. -/
def rcK (x : Vec F S128x10240 .bf16) (d : Vec F S128x5120 .bf16) (y3 : Vec F S128x10240 .fp8e4m3) (k : ℕ) : Vec F S128x10240 .fp8e4m3 := fun y =>
  if (y 1).val % 5120 / 128 < k then rcV x d y else y3 y
/-- The column codes before trip `k`. -/
def ccK (x : Vec F S128x10240 .bf16) (d : Vec F S128x5120 .bf16) (y5 : Vec F S10240x128 .fp8e4m3) (k : ℕ) : Vec F S10240x128 .fp8e4m3 := fun y =>
  if (y 0).val % 5120 / 128 < k then ccV x d y else y5 y
/-- The row scales before trip `k`. -/
def rsK (x : Vec F S128x10240 .bf16) (d : Vec F S128x5120 .bf16) (acc : FVec F S128x80 .f32) (k : ℕ) : FVec F S128x80 .f32 := fun y =>
  if (y 1).val % 40 < k then rsV x d y else acc y
/-- The scratch before trip `k` of block `i`. -/
def csK (i : ℕ) (x : Vec F S128x10240 .bf16) (d : Vec F S128x5120 .bf16) (y7 : Vec F S104x10240 .f32) (k : ℕ) : Vec F S104x10240 .f32 := fun y =>
  if (y 0).val = i ∧ (y 1).val % 5120 / 128 < k then csV x d (y 1) else y7 y

/-- A put read at an index inside it. -/
theorem put_in {α : Type} {m n a b : ℕ} (x : (⟨2, ![m, n]⟩ : Shape).Idx → α) (o0 o1 : ℕ) (w : (⟨2, ![a, b]⟩ : Shape).Idx → α) (y : (⟨2, ![m, n]⟩ : Shape).Idx)
    (h0 : o0 ≤ (y 0).val ∧ (y 0).val < o0 + a) (h1 : o1 ≤ (y 1).val ∧ (y 1).val < o1 + b) :
    VecWindow.put (s := ⟨2, ![m, n]⟩) x ![o0, o1] (⟨2, ![a, b]⟩ : Shape).size w y = w (ix2 ⟨(y 0).val - o0, by omega⟩ ⟨(y 1).val - o1, by omega⟩) := by
  have h : ∀ c : Fin 2, ![o0, o1] c ≤ (y c).val ∧ (y c).val < ![o0, o1] c + (⟨2, ![a, b]⟩ : Shape).size c := fun c => by
    fin_cases c
    · exact h0
    · exact h1
  refine (dif_pos h).trans (congrArg w (funext fun c => ?_))
  fin_cases c <;> rfl
/-- A put read at an index outside it. -/
theorem put_out {α : Type} {m n a b : ℕ} (x : (⟨2, ![m, n]⟩ : Shape).Idx → α) (o0 o1 : ℕ) (w : (⟨2, ![a, b]⟩ : Shape).Idx → α) (y : (⟨2, ![m, n]⟩ : Shape).Idx)
    (h : ¬ ((o0 ≤ (y 0).val ∧ (y 0).val < o0 + a) ∧ (o1 ≤ (y 1).val ∧ (y 1).val < o1 + b))) :
    VecWindow.put (s := ⟨2, ![m, n]⟩) x ![o0, o1] (⟨2, ![a, b]⟩ : Shape).size w y = x y :=
  dif_neg fun g => h ⟨g 0, g 1⟩

theorem rcK_succ (x : Vec F S128x10240 .bf16) (d : Vec F S128x5120 .bf16) (y3 : Vec F S128x10240 .fp8e4m3) (k : ℕ) (hk : k < 40) :
    VecWindow.put (s := S128x10240) (VecWindow.put (s := S128x10240) (rcK x d y3 k) ![0, 128 * k] S128x128.size (rowCodes (gTile x d k hk))) ![0, 128 * k + 5120] S128x128.size (rowCodes (uTile x d k hk))
      = rcK x d y3 (k + 1) := by
  funext y
  have hy0 : (y 0).val < 128 := (y 0).isLt
  have hy1 : (y 1).val < 10240 := (y 1).isLt
  by_cases hu : 128 * k + 5120 ≤ (y 1).val ∧ (y 1).val < 128 * k + 5120 + 128
  · refine (put_in (m := 128) (n := 10240) (a := 128) (b := 128) _ _ _ _ y ⟨by omega, by omega⟩ hu).trans ?_
    unfold rcK rcV
    rw [if_pos (by omega), tileOf_u x d hk (by omega)]
    refine congrArg _ (funext fun c => Fin.ext ?_)
    fin_cases c
    · show (y 0).val - 0 = (y 0).val; omega
    · show (y 1).val - (128 * k + 5120) = (y 1).val % 128; omega
  · refine (put_out (m := 128) (n := 10240) (a := 128) (b := 128) _ _ _ _ y fun h => hu h.2).trans ?_
    by_cases hg : 128 * k ≤ (y 1).val ∧ (y 1).val < 128 * k + 128
    · refine (put_in (m := 128) (n := 10240) (a := 128) (b := 128) _ _ _ _ y ⟨by omega, by omega⟩ hg).trans ?_
      unfold rcK rcV
      rw [if_pos (by omega), tileOf_g x d hk (by omega)]
      refine congrArg _ (funext fun c => Fin.ext ?_)
      fin_cases c
      · show (y 0).val - 0 = (y 0).val; omega
      · show (y 1).val - (128 * k) = (y 1).val % 128; omega
    · refine (put_out (m := 128) (n := 10240) (a := 128) (b := 128) _ _ _ _ y fun h => hg h.2).trans ?_
      unfold rcK
      by_cases hlt : (y 1).val % 5120 / 128 < k
      · rw [if_pos hlt, if_pos (by omega)]
      · rw [if_neg hlt, if_neg (by omega)]

theorem ccK_succ (x : Vec F S128x10240 .bf16) (d : Vec F S128x5120 .bf16) (y5 : Vec F S10240x128 .fp8e4m3) (k : ℕ) (hk : k < 40) :
    VecWindow.put (s := S10240x128) (VecWindow.put (s := S10240x128) (ccK x d y5 k) ![128 * k, 0] S128x128.size (colCodes (gTile x d k hk))) ![128 * k + 5120, 0] S128x128.size (colCodes (uTile x d k hk))
      = ccK x d y5 (k + 1) := by
  funext y
  have hy0 : (y 0).val < 10240 := (y 0).isLt
  have hy1 : (y 1).val < 128 := (y 1).isLt
  by_cases hu : 128 * k + 5120 ≤ (y 0).val ∧ (y 0).val < 128 * k + 5120 + 128
  · refine (put_in (m := 10240) (n := 128) (a := 128) (b := 128) _ _ _ _ y hu ⟨by omega, by omega⟩).trans ?_
    unfold ccK ccV
    rw [if_pos (by omega), tileOf_u x d hk (by omega)]
    refine congrArg _ (funext fun c => Fin.ext ?_)
    fin_cases c
    · show (y 0).val - (128 * k + 5120) = (y 0).val % 128; omega
    · show (y 1).val - 0 = (y 1).val; omega
  · refine (put_out (m := 10240) (n := 128) (a := 128) (b := 128) _ _ _ _ y fun h => hu h.1).trans ?_
    by_cases hg : 128 * k ≤ (y 0).val ∧ (y 0).val < 128 * k + 128
    · refine (put_in (m := 10240) (n := 128) (a := 128) (b := 128) _ _ _ _ y hg ⟨by omega, by omega⟩).trans ?_
      unfold ccK ccV
      rw [if_pos (by omega), tileOf_g x d hk (by omega)]
      refine congrArg _ (funext fun c => Fin.ext ?_)
      fin_cases c
      · show (y 0).val - (128 * k) = (y 0).val % 128; omega
      · show (y 1).val - 0 = (y 1).val; omega
    · refine (put_out (m := 10240) (n := 128) (a := 128) (b := 128) _ _ _ _ y fun h => hg h.1).trans ?_
      unfold ccK
      by_cases hlt : (y 0).val % 5120 / 128 < k
      · rw [if_pos hlt, if_pos (by omega)]
      · rw [if_neg hlt, if_neg (by omega)]

/-- A column broadcast over many reads its own element. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem putScale_apply (g : BitVec 32) (n : Fin 80) (hg : g = BitVec.ofNat 32 n.val) (v : FVec F S128x128 .f32) (acc : FVec F S128x80 .f32) (y : S128x80.Idx) :
    putScale (iota .tc S128x80 32 [1] iota_S128x80_d1_w32) g v acc y
      = if (y 1).val = n.val then scaleV (rowQ v) (ix2 (n0 := 128) (n1 := 1) (y 0) 0) else acc y := by
  unfold putScale
  rw [shapeCast_self]
  show Scalar.select (IntOp.cmpi .eq (BitVec.ofNat 32 (([1] : List (Fin 2)).foldl (fun n a => n * S128x80.size a + (y a).val) 0)) g) _ _ = _
  have e : ([1] : List (Fin 2)).foldl (fun n a => n * S128x80.size a + (y a).val) 0 = (y 1).val := by simp
  have hy1 : (y 1).val < 80 := (y 1).isLt
  have hn := n.isLt
  rw [e]
  by_cases h : (y 1).val = n.val
  · rw [if_pos h, IntOp.cmpi_eq.2 (by rw [h, hg])]
    obtain ⟨p, q, rfl⟩ : ∃ (p : Fin 128) (q : Fin 80), y = ix2 p q := ⟨y 0, y 1, eq_ix2 y⟩
    exact (if_pos rfl).trans (broadcastTo_a1_ab_apply _ _ p q)
  · rw [if_neg h]
    have hne : IntOp.cmpi .eq (BitVec.ofNat 32 (y 1).val) g ≠ 1#1 := fun hc => h (by
      have := IntOp.cmpi_eq.1 hc
      rw [hg] at this
      have h2 := congrArg BitVec.toNat this
      simp only [BitVec.toNat_ofNat] at h2
      omega)
    exact if_neg hne

theorem rsK_succ (x : Vec F S128x10240 .bf16) (d : Vec F S128x5120 .bf16) (acc : FVec F S128x80 .f32) (k : Fin k0_t1_loop.trips) :
    putScale (iota .tc S128x80 32 [1] iota_S128x80_d1_w32) (Scalar.addi 40#32 (Scf.iv 0#32 1#32 k)) (uTile x d k (k_lt k))
        (putScale (iota .tc S128x80 32 [1] iota_S128x80_d1_w32) (Scalar.addi 0#32 (Scf.iv 0#32 1#32 k)) (gTile x d k (k_lt k)) (rsK x d acc k))
      = rsK x d acc (k.val + 1) := by
  have hk := k_lt k
  funext y
  have hy1 : (y 1).val < 80 := (y 1).isLt
  have hu : ∀ k : Fin k0_t1_loop.trips, Scalar.addi 40#32 (Scf.iv 0#32 1#32 k) = BitVec.ofNat 32 (k.val + 40) := by decide +kernel
  have hg : ∀ k : Fin k0_t1_loop.trips, Scalar.addi 0#32 (Scf.iv 0#32 1#32 k) = BitVec.ofNat 32 k.val := by decide +kernel
  rw [putScale_apply _ ⟨k.val + 40, by omega⟩ (hu k), putScale_apply _ ⟨k.val, by omega⟩ (hg k)]
  unfold rsK rsV
  by_cases h1 : (y 1).val = k.val + 40
  · rw [if_pos h1, if_pos (by omega), tileOf_u x d hk h1]
  · rw [if_neg h1]
    by_cases h2 : (y 1).val = k.val
    · rw [if_pos h2, if_pos (by omega), tileOf_g x d hk h2]
    · rw [if_neg h2]
      by_cases hlt : (y 1).val % 40 < k.val
      · rw [if_pos hlt, if_pos (by omega)]
      · rw [if_neg hlt, if_neg (by omega)]

theorem putRow_apply (i : grid0.Coords) (v : FVec F S128x128 .f32) (old : Vec F S8x128 .f32) (y : S8x128.Idx) :
    putRow (iota .tc S8x128 32 [0] iota_S8x128_d0_w32) (Scalar.subi (BitVec.ofNat 32 (i 0).val) (Scalar.shli (Scalar.shrui (BitVec.ofNat 32 (i 0).val) 3#32) 3#32)) v old y
      = if (y 0).val = (i 0).val % 8 then scaleV (colQ v) (ix2 (n0 := 1) (n1 := 128) 0 (y 1)) else old y := by
  unfold putRow
  rw [shapeCast_self, shapeCast_self]
  show Scalar.select (IntOp.cmpi .eq (BitVec.ofNat 32 (([0] : List (Fin 2)).foldl (fun n a => n * S8x128.size a + (y a).val) 0)) _) _ _ = _
  have e : ([0] : List (Fin 2)).foldl (fun n a => n * S8x128.size a + (y a).val) 0 = (y 0).val := by simp
  have hy0 : (y 0).val < 8 := (y 0).isLt
  have hr : ∀ i : Fin 104, (Scalar.subi (BitVec.ofNat 32 i.val) (Scalar.shli (Scalar.shrui (BitVec.ofNat 32 i.val) 3#32) 3#32)) = BitVec.ofNat 32 (i.val % 8) := by decide +kernel
  rw [e, hr (i 0), broadcast_apply]
  by_cases h : (y 0).val = (i 0).val % 8
  · rw [if_pos h, IntOp.cmpi_eq.2 (congrArg (BitVec.ofNat 32) h)]
    obtain ⟨p, q, rfl⟩ : ∃ (p : Fin 8) (q : Fin 128), y = ix2 p q := ⟨y 0, y 1, eq_ix2 y⟩
    exact (if_pos rfl).trans (broadcastTo_1b_ab_apply _ _ p q)
  · rw [if_neg h]
    have hne : IntOp.cmpi .eq (BitVec.ofNat 32 (y 0).val) (BitVec.ofNat 32 ((i 0).val % 8)) ≠ 1#1 := fun hc => h (by
      have h2 := congrArg BitVec.toNat (IntOp.cmpi_eq.1 hc)
      simp only [BitVec.toNat_ofNat] at h2
      omega)
    exact if_neg hne

/-- A row laid over one of eight rows of the scratch, read at an index. -/
theorem putRow_put (i : grid0.Coords) (z y7 : Vec F S104x10240 .f32) (v : FVec F S128x128 .f32) (o : ℕ) (inb) (hz : ∀ y, o ≤ (y 1).val → (y 1).val < o + 128 → y7 y = z y) (y : S104x10240.Idx) :
    VecWindow.put (s := S104x10240) z ![8 * ((i 0).val / 8), o] S8x128.size
      (putRow (iota .tc S8x128 32 [0] iota_S8x128_d0_w32) (Scalar.subi (BitVec.ofNat 32 (i 0).val) (Scalar.shli (Scalar.shrui (BitVec.ofNat 32 (i 0).val) 3#32) 3#32)) v
        (VecWindow.window (s := S104x10240) y7 ![8 * ((i 0).val / 8), o] S8x128.size inb)) y
    = if h : (y 0).val = (i 0).val ∧ o ≤ (y 1).val ∧ (y 1).val < o + 128 then scaleV (colQ v) (ix2 (n0 := 1) (n1 := 128) 0 ⟨(y 1).val - o, by omega⟩) else z y := by
  have hi := i_lt i
  by_cases hp : (8 * ((i 0).val / 8) ≤ (y 0).val ∧ (y 0).val < 8 * ((i 0).val / 8) + 8) ∧ (o ≤ (y 1).val ∧ (y 1).val < o + 128)
  · refine (put_in (m := 104) (n := 10240) (a := 8) (b := 128) _ _ _ _ y hp.1 hp.2).trans ?_
    rw [putRow_apply]
    by_cases h : (y 0).val = (i 0).val
    · rw [dif_pos ⟨h, hp.2⟩, if_pos (by show (y 0).val - 8 * ((i 0).val / 8) = (i 0).val % 8; omega)]
    · rw [dif_neg fun g => h g.1, if_neg (by show ¬ (y 0).val - 8 * ((i 0).val / 8) = (i 0).val % 8; omega)]
      rw [← hz y hp.2.1 hp.2.2]
      show y7 _ = y7 y
      refine congrArg _ (funext fun c => Fin.ext ?_)
      fin_cases c
      · show 8 * ((i 0).val / 8) + 1 * ((y 0).val - 8 * ((i 0).val / 8)) = (y 0).val; omega
      · show o + 1 * ((y 1).val - o) = (y 1).val; omega
  · rw [dif_neg (fun g => hp (by omega))]
    exact put_out (m := 104) (n := 10240) (a := 8) (b := 128) _ _ _ _ y hp

theorem csK_succ (i : grid0.Coords) (x : Vec F S128x10240 .bf16) (d : Vec F S128x5120 .bf16) (y7 : Vec F S104x10240 .f32) (k : ℕ) (hk : k < 40) :
    (VecWindow.put (s := S104x10240) (VecWindow.put (s := S104x10240) (csK (i 0).val x d y7 k) ![8 * ((i 0).val / 8), 128 * k] S8x128.size
                (putRow (iota .tc S8x128 32 [0] iota_S8x128_d0_w32) (Scalar.subi (BitVec.ofNat 32 (i 0).val) (Scalar.shli (Scalar.shrui (BitVec.ofNat 32 (i 0).val) 3#32) 3#32)) (gTile x d k hk)
                  (VecWindow.window (s := S104x10240) (csK (i 0).val x d y7 k) ![8 * ((i 0).val / 8), 128 * k] S8x128.size (inb7_0 i hk))))
              ![8 * ((i 0).val / 8), 128 * k + 5120] S8x128.size
                (putRow (iota .tc S8x128 32 [0] iota_S8x128_d0_w32) (Scalar.subi (BitVec.ofNat 32 (i 0).val) (Scalar.shli (Scalar.shrui (BitVec.ofNat 32 (i 0).val) 3#32) 3#32)) (uTile x d k hk)
                  (VecWindow.window (s := S104x10240) (csK (i 0).val x d y7 k) ![8 * ((i 0).val / 8), 128 * k + 5120] S8x128.size (inb7_1 i hk))))
      = csK (i 0).val x d y7 (k + 1) := by
  funext y
  have hy1 : (y 1).val < 10240 := (y 1).isLt
  rw [putRow_put i _ _ _ _ _ (fun y h1 h2 => by
    rw [putRow_put i _ _ _ _ _ (fun _ _ _ => rfl), dif_neg (by omega)]), putRow_put i _ _ _ _ _ (fun _ _ _ => rfl)]
  unfold csK csV
  by_cases hu : (y 0).val = (i 0).val ∧ 128 * k + 5120 ≤ (y 1).val ∧ (y 1).val < 128 * k + 5120 + 128
  · rw [dif_pos hu, if_pos (by omega), tileOf_u x d hk (by omega)]
    refine congrArg _ (funext fun c => Fin.ext ?_)
    fin_cases c
    · rfl
    · show (y 1).val - (128 * k + 5120) = (y 1).val % 128; omega
  · rw [dif_neg hu]
    by_cases hg : (y 0).val = (i 0).val ∧ 128 * k ≤ (y 1).val ∧ (y 1).val < 128 * k + 128
    · rw [dif_pos hg, if_pos (by omega), tileOf_g x d hk (by omega)]
      refine congrArg _ (funext fun c => Fin.ext ?_)
      fin_cases c
      · rfl
      · show (y 1).val - (128 * k) = (y 1).val % 128; omega
    · rw [dif_neg hg]
      by_cases hlt : (y 0).val = (i 0).val ∧ (y 1).val % 5120 / 128 < k
      · rw [if_pos hlt, if_pos (by omega)]
      · rw [if_neg hlt, if_neg (by omega)]

theorem trips1 : k0_t1_loop.trips = 40 := by decide +kernel
theorem trips2 : k0_t2_loop.trips = 80 := by decide +kernel

/-- After the last trip nothing of the row codes that were there is left. -/
theorem rcK_all (x : Vec F S128x10240 .bf16) (d : Vec F S128x5120 .bf16) (y3) : rcK x d y3 40 = rcV x d := by
  funext y; exact if_pos (by have : (y 1).val < 10240 := (y 1).isLt; omega)
theorem ccK_all (x : Vec F S128x10240 .bf16) (d : Vec F S128x5120 .bf16) (y5) : ccK x d y5 40 = ccV x d := by
  funext y; exact if_pos (by have : (y 0).val < 10240 := (y 0).isLt; omega)
theorem rsK_all (x : Vec F S128x10240 .bf16) (d : Vec F S128x5120 .bf16) (acc) : rsK x d acc 40 = rsV x d := by
  funext y; exact if_pos (by omega)
/-- The scratch after block `i`: its row holds the block's column scales. -/
def csAfter (i : ℕ) (x : Vec F S128x10240 .bf16) (d : Vec F S128x5120 .bf16) (y7 : Vec F S104x10240 .f32) : Vec F S104x10240 .f32 := fun y =>
  if (y 0).val = i then csV x d (y 1) else y7 y
theorem csK_all (i : ℕ) (x : Vec F S128x10240 .bf16) (d : Vec F S128x5120 .bf16) (y7) : csK i x d y7 40 = csAfter i x d y7 := by
  funext y
  have : (y 1).val < 10240 := (y 1).isLt
  unfold csK csAfter
  by_cases h : (y 0).val = i
  · rw [if_pos h, if_pos ⟨h, by omega⟩]
  · rw [if_neg h, if_neg fun g => h g.1]

variable (c : Dev nD) (i : grid0.Coords) (arg1 : Memref sig .tc .vmem S128x10240 .bf16) (harg1 : arg1.IsWhole) (arg2 : Memref sig .tc .vmem S128x5120 .bf16) (harg2 : arg2.IsWhole) (arg3 : Memref sig .tc .vmem S128x10240 .fp8e4m3) (harg3 : arg3.IsWhole) (arg4 : Memref sig .tc .vmem S128x80 .f32) (harg4 : arg4.IsWhole) (arg5 : Memref sig .tc .vmem S10240x128 .fp8e4m3) (harg5 : arg5.IsWhole) (arg6 : Memref sig .tc .vmem S10240x104 .f32) (harg6 : arg6.IsWhole) (arg7 : Memref sig .tc .vmem S104x10240 .f32) (harg7 : arg7.IsWhole)

/-- The tile loop by its invariant. -/
@[instance_reducible] def loop1 (E : Set ℕ) (x : Vec F S128x10240 .bf16) (d : Vec F S128x5120 .bf16) (y3 : Vec F S128x10240 .fp8e4m3) (y5 : Vec F S10240x128 .fp8e4m3) (y7 : Vec F S104x10240 .f32) (init : FVec F S128x80 .f32) :
    LoopInvTy_k0_t1 (F := F) Unit ℕ (UR sig nD τ) ℕ Variants.none c none E i arg1 harg1 arg2 harg2 arg3 harg3 arg4 harg4 arg5 harg5 arg6 harg6 arg7 harg7
      (BitVec.ofNat 32 (i 0).val) (Scalar.shli (Scalar.shrui (BitVec.ofNat 32 (i 0).val) 3#32) 3#32) (iota .tc S8x128 32 [0] iota_S8x128_d0_w32) (iota .tc S128x80 32 [1] iota_S128x80_d1_w32) init where
  inv k acc := iprop(⌜acc = rsK x d init k⌝ ∗ Trip c arg1 arg2 arg3 arg5 arg7 x d (rcK x d y3 k) (ccK x d y5 k) (csK (i 0).val x d y7 k))
  step k acc := by
    iintro ⟨%hacc, HT⟩
    subst hacc
    iapply (wp_wand_r Idealize.ShloMosaic.frame (wpE (defs₀ (F := F)) Variants.none (c : Thread nD τ) none) E)
    isplitl [HT]
    · iapply (trip c i arg1 harg1 arg2 harg2 arg3 harg3 arg4 harg4 arg5 harg5 arg6 harg6 arg7 harg7 E) $$ HT
    · iintro %acc' ⟨%hacc', HT⟩
      isplitr
      · ipureintro; rw [hacc', rsK_succ]
      · rw [rcK_succ, ccK_succ, csK_succ]
        iexact HT

/-- The transposed scratch. -/
def trV (z : Vec F S104x10240 .f32) : Vec F S10240x104 .f32 := fun y => z (ix2 (n0 := 104) (n1 := 10240) (y 1) (y 0))
/-- The transposed scratch before trip `k`. -/
def trK (z : Vec F S104x10240 .f32) (y6 : Vec F S10240x104 .f32) (k : ℕ) : Vec F S10240x104 .f32 := fun y =>
  if (y 0).val / 128 < k then trV z y else y6 y

theorem inbt {k : ℕ} (hk : k < 80) : ∀ a : Fin 2, ![0, 128 * k] a + S104x128.size a ≤ S104x10240.size a := by
  intro a; fin_cases a <;> simp [S104x128, S104x10240] <;> omega

theorem trK_succ (z : Vec F S104x10240 .f32) (y6 : Vec F S10240x104 .f32) (k : ℕ) (hk : k < 80) :
    VecWindow.put (s := S10240x104) (trK z y6 k) ![128 * k, 0] S128x104.size (k0_pay4 (VecWindow.window (s := S104x10240) z ![0, 128 * k] S104x128.size (inbt hk))) = trK z y6 (k + 1) := by
  funext y
  have hy0 : (y 0).val < 10240 := (y 0).isLt
  have hy1 : (y 1).val < 104 := (y 1).isLt
  by_cases hu : 128 * k ≤ (y 0).val ∧ (y 0).val < 128 * k + 128
  · refine (put_in (m := 10240) (n := 104) (a := 128) (b := 104) _ _ _ _ y hu ⟨by omega, by omega⟩).trans ?_
    refine (transpose_ix2_apply (a := 104) (b := 128) (VecWindow.window (s := S104x10240) z ![0, 128 * k] S104x128.size (inbt hk)) transposes_S104x128_p1_0_S128x104 _ _).trans ?_
    unfold trK trV
    rw [if_pos (by omega)]
    show z _ = z _
    refine congrArg _ (funext fun c => Fin.ext ?_)
    fin_cases c
    · show 0 + 1 * ((y 1).val - 0) = (y 1).val; omega
    · show 128 * k + 1 * ((y 0).val - 128 * k) = (y 0).val; omega
  · refine (put_out (m := 10240) (n := 104) (a := 128) (b := 104) _ _ _ _ y fun h => hu h.1).trans ?_
    unfold trK
    by_cases hlt : (y 0).val / 128 < k
    · rw [if_pos hlt, if_pos (by omega)]
    · rw [if_neg hlt, if_neg (by omega)]
theorem trK_all (z : Vec F S104x10240 .f32) (y6) : trK z y6 80 = trV z := by
  funext y; exact if_pos (by have : (y 0).val < 10240 := (y 0).isLt; omega)

theorem trip2 (E : Set ℕ) (k0_h1 : k0_cond1 i = 1#1) (z : Vec F S104x10240 .f32) (y6 : Vec F S10240x104 .f32) (k : Fin k0_t2_loop.trips) :
    (iprop(owns (c : Thread nD τ) arg7 fullShare z ∗ owns (c : Thread nD τ) arg6 fullShare y6) : sProp 𝕄)
    ⊢ wp frame (wpE (defs₀ (F := F)) Variants.none c none) E (k0_t2_body (F := F) i arg1 harg1 arg2 harg2 arg3 harg3 arg4 harg4 arg5 harg5 arg6 harg6 arg7 harg7 k0_h1 k PUnit.unit)
        (fun _ => iprop(owns (c : Thread nD τ) arg7 fullShare z ∗ owns (c : Thread nD τ) arg6 fullShare
          (VecWindow.put (s := S10240x104) y6 ![128 * k.val, 0] S128x104.size (k0_pay4 (VecWindow.window (s := S104x10240) z ![0, 128 * k.val] S104x128.size (inbt (trips2 ▸ k.isLt))))))) := by
  have hk : k.val < 80 := trips2 ▸ k.isLt
  unfold owns k0_t2_body
  iintro ⟨⟨%f7, %h7, H7⟩, ⟨%f6, %h6, H6⟩⟩
  subst h7 h6
  sl_exec
  sl_step
  isplitl [H7]
  · iexists f7; isplitr
    · ipureintro; rfl
    · iexact H7
  · iexists _; isplitr; rotate_left; · iexact H6
    ipureintro
    rw [View.read_writes_cons_put arg6.view f6 _ _ _ (k0_off8_eq k)]
    rw [← View.readAt_unit _ f7 (k0_off7_inb i k k0_h1) (k0_off7_eq k)]
    rfl

/-- The transposing loop by its invariant. -/
@[instance_reducible] def loop2 (E : Set ℕ) (k0_h1 : k0_cond1 i = 1#1) (z : Vec F S104x10240 .f32) (y6 : Vec F S10240x104 .f32) :
    LoopInvTy_k0_t2 (F := F) Unit ℕ (UR sig nD τ) ℕ Variants.none c none E i arg1 harg1 arg2 harg2 arg3 harg3 arg4 harg4 arg5 harg5 arg6 harg6 arg7 harg7 k0_h1 where
  inv k _ := iprop(owns (c : Thread nD τ) arg7 fullShare z ∗ owns (c : Thread nD τ) arg6 fullShare (trK z y6 k))
  step k acc := by
    iintro HT
    iapply (wp_wand_r Idealize.ShloMosaic.frame (wpE (defs₀ (F := F)) Variants.none (c : Thread nD τ) none) E)
    isplitl [HT]
    · iapply (trip2 c i arg1 harg1 arg2 harg2 arg3 harg3 arg4 harg4 arg5 harg5 arg6 harg6 arg7 harg7 E) $$ HT
    · iintro %acc' HT
      rw [trK_succ z y6 k.val (trips2 ▸ k.isLt)]
      iexact HT

end Cert.Kernel.Hand
-- ==== Proof.Kernel.Body.lean ====
module

public import proofs.«01_k».proof.Proof.Kernel.Block
public import Idealize.ShloMosaic.Lib.Claim

/-! The kernel's body at a point, the pipeline's proof data (the scratch's finished rows tracked from point to point),
the run and the frame. -/

@[expose] public section

set_option maxRecDepth 16384

noncomputable section

namespace Cert.Kernel.Hand

open Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S128x10240 .bf16) (harg1 : arg1.IsWhole) (arg2 : Memref sig .tc .vmem S128x5120 .bf16) (harg2 : arg2.IsWhole) (arg3 : Memref sig .tc .vmem S128x10240 .fp8e4m3) (harg3 : arg3.IsWhole) (arg4 : Memref sig .tc .vmem S128x80 .f32) (harg4 : arg4.IsWhole) (arg5 : Memref sig .tc .vmem S10240x128 .fp8e4m3) (harg5 : arg5.IsWhole) (arg6 : Memref sig .tc .vmem S10240x104 .f32) (harg6 : arg6.IsWhole) (arg7 : Memref sig .tc .vmem S104x10240 .f32) (harg7 : arg7.IsWhole)

theorem loop1_start (E : Set ℕ) (x : Vec F S128x10240 .bf16) (d : Vec F S128x5120 .bf16) (y3 : Vec F S128x10240 .fp8e4m3) (y5 : Vec F S10240x128 .fp8e4m3) (y7 : Vec F S104x10240 .f32) (init : FVec F S128x80 .f32) :
    Trip c arg1 arg2 arg3 arg5 arg7 x d y3 y5 y7 ⊢ (loop1 c i arg1 harg1 arg2 harg2 arg3 harg3 arg4 harg4 arg5 harg5 arg6 harg6 arg7 harg7 E x d y3 y5 y7 init).inv 0 init := by
  show _ ⊢ iprop(⌜init = rsK x d init 0⌝ ∗ Trip c arg1 arg2 arg3 arg5 arg7 x d (rcK x d y3 0) (ccK x d y5 0) (csK (i 0).val x d y7 0))
  rw [show rcK x d y3 0 = y3 from by funext y; exact if_neg (by omega), show ccK x d y5 0 = y5 from by funext y; exact if_neg (by omega),
        show csK (i 0).val x d y7 0 = y7 from by funext y; exact if_neg (by omega)]
  iintro H
  isplitr
  · ipureintro; funext y; exact (if_neg (by omega)).symm
  · iexact H
theorem loop1_end (E : Set ℕ) (x : Vec F S128x10240 .bf16) (d : Vec F S128x5120 .bf16) (y3 : Vec F S128x10240 .fp8e4m3) (y5 : Vec F S10240x128 .fp8e4m3) (y7 : Vec F S104x10240 .f32) (init acc : FVec F S128x80 .f32) :
    (loop1 c i arg1 harg1 arg2 harg2 arg3 harg3 arg4 harg4 arg5 harg5 arg6 harg6 arg7 harg7 E x d y3 y5 y7 init).inv k0_t1_loop.trips acc
      ⊢ iprop(⌜acc = rsV x d⌝ ∗ Trip c arg1 arg2 arg3 arg5 arg7 x d (rcV x d) (ccV x d) (csAfter (i 0).val x d y7)) := by
  show iprop(⌜acc = rsK x d init k0_t1_loop.trips⌝ ∗ Trip c arg1 arg2 arg3 arg5 arg7 x d (rcK x d y3 k0_t1_loop.trips) (ccK x d y5 k0_t1_loop.trips) (csK (i 0).val x d y7 k0_t1_loop.trips)) ⊢ _
  rw [trips1, rsK_all, rcK_all, ccK_all, csK_all]
theorem loop2_start (E : Set ℕ) (k0_h1 : k0_cond1 i = 1#1) (z : Vec F S104x10240 .f32) (y6 : Vec F S10240x104 .f32) :
    (iprop(owns (c : Thread nD τ) arg7 fullShare z ∗ owns (c : Thread nD τ) arg6 fullShare y6) : sProp 𝕄)
      ⊢ (loop2 c i arg1 harg1 arg2 harg2 arg3 harg3 arg4 harg4 arg5 harg5 arg6 harg6 arg7 harg7 E k0_h1 z y6).inv 0 ⟨⟩ := by
  show _ ⊢ iprop(owns (c : Thread nD τ) arg7 fullShare z ∗ owns (c : Thread nD τ) arg6 fullShare (trK z y6 0))
  rw [show trK z y6 0 = y6 from by funext y; exact if_neg (by omega)]
theorem loop2_end (E : Set ℕ) (k0_h1 : k0_cond1 i = 1#1) (z : Vec F S104x10240 .f32) (y6 : Vec F S10240x104 .f32) (acc : Unit) :
    (loop2 c i arg1 harg1 arg2 harg2 arg3 harg3 arg4 harg4 arg5 harg5 arg6 harg6 arg7 harg7 E k0_h1 z y6).inv k0_t2_loop.trips acc
      ⊢ (iprop(owns (c : Thread nD τ) arg7 fullShare z ∗ owns (c : Thread nD τ) arg6 fullShare (trV z)) : sProp 𝕄) := by
  show iprop(owns (c : Thread nD τ) arg7 fullShare z ∗ owns (c : Thread nD τ) arg6 fullShare (trK z y6 k0_t2_loop.trips)) ⊢ _
  rw [trips2, trK_all]

/-- The body's tail by whether the point is the last. -/
theorem tail (E : Set ℕ) (z : Vec F S104x10240 .f32) (y6 : Vec F S10240x104 .f32) (K : PUnit → sProp 𝕄) :
    iprop(owns (c : Thread nD τ) arg7 fullShare z ∗ owns (c : Thread nD τ) arg6 fullShare y6
      ∗ (iprop(owns (c : Thread nD τ) arg7 fullShare z ∗ owns (c : Thread nD τ) arg6 fullShare (if k0_cond1 i = 1#1 then trV z else y6)) -∗ K ⟨⟩))
    ⊢ wp frame (wpE (defs₀ (F := F)) Variants.none c none) E
      (do
        if k0_h1 : k0_cond1 i = 1#1 then do
          Scf.Loop.for k0_t2_loop (k0_t2_ok i k0_h1) ⟨⟩ (k0_t2_body i arg1 harg1 arg2 harg2 arg3 harg3 arg4 harg4 arg5 harg5 arg6 harg6 arg7 harg7 k0_h1)
          pure ⟨⟩
        else do
          pure ⟨⟩
        pure ⟨⟩) K := by
  iintro ⟨H7, H6, Hk⟩
  by_cases h : k0_cond1 i = 1#1
  · simp only [dif_pos h, if_pos h]
    iapply (exec_loop Idealize.ShloMosaic.frame (wpE (defs₀ (F := F)) Variants.none (c : Thread nD τ) none) E _ _ _ _ _ _
      (loop2 c i arg1 harg1 arg2 harg2 arg3 harg3 arg4 harg4 arg5 harg5 arg6 harg6 arg7 harg7 E h z y6)) $$ [H7 H6]
    · iapply loop2_start
      isplitl [H7]; · iexact H7
      iexact H6
    iintro %acc HL
    ihave HL := (loop2_end c i arg1 harg1 arg2 harg2 arg3 harg3 arg4 harg4 arg5 harg5 arg6 harg6 arg7 harg7 E h z y6 acc) $$ HL
    sl_step
    iapply Hk
    iexact HL
  · simp only [dif_neg h, if_neg h]
    sl_step
    iapply Hk
    isplitl [H7]; · iexact H7
    iexact H6

/-- The store of the row scales, before anything. -/
theorem store4 (E : Set ℕ) (v y4 : Vec F S128x80 .f32) (k : Prog (TpuEff nD τ sig (Elt F) Λ₀ .tc) PUnit) (K : PUnit → sProp 𝕄) :
    iprop(owns (c : Thread nD τ) arg4 fullShare y4 ∗ (owns (c : Thread nD τ) arg4 fullShare v -∗ wp frame (wpE (defs₀ (F := F)) Variants.none c none) E k K))
    ⊢ wp frame (wpE (defs₀ (F := F)) Variants.none c none) E
      (do
        let _ ← Prog.lift (.load arg4 (Rect.unit (s := S128x80) ![0, 0] S128x80.size inb_S128x80_S128x80_0_0).toLoadRect (View.loadsAt_vmem h_S128x80))
        Prog.lift (.store arg4 (Rect.unit (s := S128x80) ![0, 0] S128x80.size inb_S128x80_S128x80_0_0) v Finset.univ (View.stores_vmem_bits_univ h_S128x80 rfl) (.inl rfl))
        k) K := by
  unfold owns
  iintro ⟨⟨%f4, %h4, H4⟩, Hk⟩
  sl_exec
  iapply Hk
  iexists _; isplitr
  swap; · iexact H4
  ipureintro
  exact View.read_writes_full _ _ _ _ _

set_option maxHeartbeats 4000000 in
/-- The body at a point: the block's codes and scales, the scratch with the block's row, and at the last point the
    transposed scratch. -/
theorem sound_kernel (E : Set ℕ) (x : Vec F S128x10240 .bf16) (d : Vec F S128x5120 .bf16) (y6 : Vec F S10240x104 .f32) (y7 : Vec F S104x10240 .f32) (K : PUnit → sProp 𝕄) :
    iprop(owns (c : Thread nD τ) arg1 fullShare x ∗ owns (c : Thread nD τ) arg2 fullShare d ∗ (∃ y, owns (c : Thread nD τ) arg3 fullShare y) ∗ (∃ y, owns (c : Thread nD τ) arg4 fullShare y) ∗ (∃ y, owns (c : Thread nD τ) arg5 fullShare y)
        ∗ owns (c : Thread nD τ) arg6 fullShare y6 ∗ owns (c : Thread nD τ) arg7 fullShare y7
        ∗ (iprop(owns (c : Thread nD τ) arg1 fullShare x ∗ owns (c : Thread nD τ) arg2 fullShare d ∗ owns (c : Thread nD τ) arg3 fullShare (rcV x d) ∗ owns (c : Thread nD τ) arg4 fullShare (rsV x d) ∗ owns (c : Thread nD τ) arg5 fullShare (ccV x d)
            ∗ owns (c : Thread nD τ) arg6 fullShare (if k0_cond1 i = 1#1 then trV (csAfter (i 0).val x d y7) else y6) ∗ owns (c : Thread nD τ) arg7 fullShare (csAfter (i 0).val x d y7)) -∗ K ⟨⟩))
      ⊢ wp frame (wpE (defs₀ (F := F)) Variants.none c none) E (cc0_dswiglu_quant i arg1 harg1 arg2 harg2 arg3 harg3 arg4 harg4 arg5 harg5 arg6 harg6 arg7 harg7) K := by
  simp only [cc0_dswiglu_quant_eq_skeleton]; unfold cc0_dswiglu_quant_skel
  iintro ⟨H1, H2, ⟨%y3, H3⟩, ⟨%y4, H4⟩, ⟨%y5, H5⟩, H6, H7, Hk⟩
  iapply (exec_loop Idealize.ShloMosaic.frame (wpE (defs₀ (F := F)) Variants.none (c : Thread nD τ) none) E _ _ _ _ _ _
    (loop1 c i arg1 harg1 arg2 harg2 arg3 harg3 arg4 harg4 arg5 harg5 arg6 harg6 arg7 harg7 E x d y3 y5 y7 (k0_pay1 (F := F)))) $$ [H1 H2 H3 H5 H7]
  · iapply loop1_start
    isplitl [H1]; · iexact H1
    isplitl [H2]; · iexact H2
    isplitl [H3]; · iexact H3
    isplitl [H5]; · iexact H5
    iexact H7
  iintro %acc HL
  ihave HL := (loop1_end c i arg1 harg1 arg2 harg2 arg3 harg3 arg4 harg4 arg5 harg5 arg6 harg6 arg7 harg7 E x d y3 y5 y7 (k0_pay1 (F := F)) acc) $$ HL
  icases HL with ⟨%hacc, H1, H2, H3, H5, H7⟩
  subst hacc
  iapply (store4 c arg4 E (rsV x d) y4 _ _)
  isplitl [H4]; · iexact H4
  iintro H4
  iapply (tail c i arg1 harg1 arg2 harg2 arg3 harg3 arg4 harg4 arg5 harg5 arg6 harg6 arg7 harg7 E (csAfter (i 0).val x d y7) y6 K)
  isplitl [H7]; · iexact H7
  isplitl [H6]; · iexact H6
  iintro ⟨H7, H6⟩
  iapply Hk
  isplitl [H1]; · iexact H1
  isplitl [H2]; · iexact H2
  isplitl [H3]; · iexact H3
  isplitl [H4]; · iexact H4
  isplitl [H5]; · iexact H5
  isplitl [H6]; · iexact H6
  iexact H7

end

/-! ## The pipeline's proof data -/

variable (m : (ℓ : Loc nD τ sig) → Buf (Elt F) ℓ) (ρ : Dev nD → PrngReg)

/-- The column scales of block `b`. -/
def csRow (c : Dev nD) (b : Fin cfg0.N) (j : Fin 10240) : Elt F .f32 := csV (iblk m c 0 b) (iblk m c 1 b) j

/-- The finished scratch: row `b` the column scales of block `b`. -/
def csFull (c : Dev nD) : Vec F S104x10240 .f32 := fun y => csRow m c (y 0) (y 1)

/-- The invariant before point `t`: the scratch's rows below `t` are finished. -/
def Phi (c : Dev nD) (t : ℕ) : sProp 𝕄 :=
  iprop((∃ z : Vec F S104x10240 .f32, ⌜∀ y : S104x10240.Idx, (y 0).val < t → z y = csFull m c y⌝ ∗ owns (c : Thread nD τ) (Memref.whole cc0_scratch0) fullShare z) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rcV (iblk m c 0 t) (iblk m c 1 t)
    | ⟨3, _⟩ => rsV (iblk m c 0 t) (iblk m c 1 t)
    | ⟨4, _⟩ => ccV (iblk m c 0 t) (iblk m c 1 t)
    | ⟨5, _⟩ => trV (csFull m c)
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = rcV (iblk m c 0 t) (iblk m c 1 t) := by dsimp only [dats]
theorem after0_3 (c : Dev nD) (t : Fin cfg0.N) : (dats m 0 c).after 3 t = rsV (iblk m c 0 t) (iblk m c 1 t) := by dsimp only [dats]
theorem after0_4 (c : Dev nD) (t : Fin cfg0.N) : (dats m 0 c).after 4 t = ccV (iblk m c 0 t) (iblk m c 1 t) := by dsimp only [dats]
theorem after0_5 (c : Dev nD) (t : Fin cfg0.N) : (dats m 0 c).after 5 t = trV (csFull m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

theorem coords_val : ∀ t : Fin cfg0.N, (grid0.coords t 0).val = t.val := by decide +kernel
theorem cond_iff : ∀ t : Fin cfg0.N, k0_cond1 (grid0.coords t) = 1#1 ↔ t.val = 103 := by decide +kernel

/-- The last point's finished scratch: the invariant's rows and the point's own. -/
theorem csAfter_step (c : Dev nD) (t : Fin cfg0.N) (z : Vec F S104x10240 .f32) (hz : ∀ y : S104x10240.Idx, (y 0).val < t.val → z y = csFull m c y) (y : S104x10240.Idx) (hy : (y 0).val < t.val + 1) :
    csAfter (grid0.coords t 0).val (iblk m c 0 t) (iblk m c 1 t) z y = csFull m c y := by
  unfold csAfter
  rw [coords_val t]
  by_cases h : (y 0).val = t.val
  · rw [if_pos h]
    have e : t = y 0 := Fin.ext h.symm
    subst e; rfl
  · rw [if_neg h]
    exact hz y (by omega)

/-- Window 5's buffer after the body: the transposed scratch at the last point, what it held before at any other. -/
theorem leaves5 (c : Dev nD) (t : Fin cfg0.N) (z : Vec F S104x10240 .f32) (hz : ∀ y : S104x10240.Idx, (y 0).val < t.val + 1 → z y = csFull m c y) (d) :
    owns (c : Thread nD τ) (st0_5 t) fullShare (if k0_cond1 (grid0.coords t) = 1#1 then trV z else (dats m 0 c).before 5 t d) ⊢ (dats m 0 c).leavesExact 5 t := by
  by_cases h : k0_cond1 (grid0.coords t) = 1#1
  · have ez : z = csFull m c := funext fun y => hz y (by have : (y 0).val < 104 := (y 0).isLt; have := (cond_iff t).1 h; omega)
    rw [if_pos h, ez, ← after0_5 m c t]
    have hi : cfg0.idle 5 (cfg0.grid.coords t) = false := by
      show (!(k0_cond1 (grid0.coords t) == 1#1)) = false
      rw [h]; rfl
    unfold Dat.leavesExact
    rw [hi]
  · rw [if_neg h]
    have hi : cfg0.idle 5 (cfg0.grid.coords t) = true := by
      show (!(k0_cond1 (grid0.coords t) == 1#1)) = true
      simpa using h
    have hf : (cfg0.win 5).flush t = false := by
      rw [Bool.eq_false_iff]
      intro hh
      have h1 := (flush0_5 t).1 hh
      have : t.val < 104 := t.isLt
      exact h ((cond_iff t).2 (by omega))
    rw [Dat.leavesExact_idle _ 5 t hi hf]
    iintro H
    iexists d
    iexact H

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.castSucc = Phi m c t.val from rfl, show (dats m 0 c).Φ t.succ = Phi m c (t.val + 1) from rfl,
    show (dats m 0 c).owesAt () t.succ = (dats m 0 c).owesAt () t.castSucc from rfl,
    after0_0, after0_1, after0_2, after0_3, after0_4]
  unfold Phi
  iintro ⟨⟨⟨%z, %hz, HS⟩, HP⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ Set.univ (iblk m c 0 t) (iblk m c 1 t) ((dats m 0 c).before 5 t d5) z _)
  isplitl [H0]; · iexact H0
  isplitl [H1]; · iexact H1
  isplitl [H2]; · iexists _; iexact H2
  isplitl [H3]; · iexists _; iexact H3
  isplitl [H4]; · iexists _; iexact H4
  isplitl [H5]; · iexact H5
  isplitl [HS]; · iexact HS
  iintro ⟨H0, H1, H2, H3, H4, H5, HS⟩
  isplitl [HS HP]
  · isplitl [HS]
    · iexists _; isplitr; rotate_left
      · iexact HS
      · ipureintro; exact csAfter_step m c t z hz
    · iexact HP
  isplitl [Ho]; · iexact Ho
  isplitl [H0]; · iexact H0
  isplitl [H1]; · iexact H1
  isplitl [H2]; · iexact H2
  isplitl [H3]; · iexact H3
  isplitl [H4]; · iexact H4
  iapply (leaves5 m c t _ (csAfter_step m c t z hz) d5) $$ H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats (F := F) m 0 c).Φ 0 := by
  rw [show (dats m 0 c).Φ 0 = Phi m c 0 from rfl]
  unfold Pipeline.ΦA Phi
  rw [scopedRest0_eq]
  iintro ⟨⟨%f, H⟩, HP⟩
  isplitl [H]
  · iexists f; isplitr
    · ipureintro; intro y hy; omega
    · rw [owns_whole]; iexact H
  · iexact HP

theorem hout (c : Dev nD) : (dats (F := F) m 0 c).Φ (Fin.last cfg0.N) ⊢ Pipeline.ΦA spec0 c := by
  rw [show (dats m 0 c).Φ (Fin.last cfg0.N) = Phi m c cfg0.N from rfl]
  unfold Pipeline.ΦA Phi
  rw [scopedRest0_eq]
  iintro ⟨⟨%z, -, H⟩, HP⟩
  isplitl [H]
  · iexists z; rw [← owns_whole]; iexact H
  · iexact HP

set_option backward.isDefEq.respectTransparency.types false in
set_option maxHeartbeats 800000 in
/-- The launch: every array of the pipeline at what the proof data computes, and every counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Hand
-- ==== Proof.KernelIdeal.Trip.lean ====
module

public import proofs.«01_k».proof.Proof.Gen.KernelIdeal.Frame
public import proofs.«01_k».proof.Proof.Gen.KernelIdeal.Loops
public import Idealize.ShloMosaic.Lib.VecWindow
public import Idealize.ShloMosaic.Lib.ValueIdx

/-! One trip of the kernel's loop over pairs of 128×128 tiles, by value: what each buffer holds after it is what
it held before with one window per half replaced by a plain function of the two input windows. -/

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tile functions -/

/-- One step of the search for an exponent field: the bit `b` is set in `f` where `q` is at least the float whose
    exponent field is `f` with that bit. -/
def stepF {s : Shape} (q : FVec F s .f32) (b : BitVec 32) (f : IVec s 32) : IVec s 32 :=
  select (cmpf .oge q (bitcastToFloat .f32 (shli (ori f (broadcast s b)) (broadcast s 23#32)))) (ori f (broadcast s b)) f
/-- The exponent field of every element. -/
def fieldV {s : Shape} (q : FVec F s .f32) : IVec s 32 :=
  stepF q 1#32 (stepF q 2#32 (stepF q 4#32 (stepF q 8#32 (stepF q 16#32 (stepF q 32#32 (stepF q 64#32 (stepF q 128#32 (broadcast s 0#32))))))))
/-- The exponent of the scale of every element. -/
def expoV {s : Shape} (q : FVec F s .f32) : IVec s 32 :=
  select (ori (cmpi .eq (fieldV q) (broadcast s 0#32)) (cmpi .eq (fieldV q) (broadcast s 255#32))) (broadcast s 0#32)
    (subi (fieldV q) (broadcast s 126#32))
/-- The scale of every element. -/
def scaleV {s : Shape} (q : FVec F s .f32) : FVec F s .f32 :=
  bitcastToFloat .f32 (shli (addi (expoV q) (broadcast s 127#32)) (broadcast s 23#32))
/-- The reciprocal of the scale of every element. -/
def invV {s : Shape} (q : FVec F s .f32) : FVec F s .f32 :=
  bitcastToFloat .f32 (shli (subi (broadcast s 127#32) (expoV q)) (broadcast s 23#32))

/-- A tile of the gradient of the gate. -/
def dG (a b d : Vec F S128x128 .bf16) : FVec F S128x128 .f32 := k0_pay9 a b d
/-- A tile of the gradient of the other half. -/
def dU (a d : Vec F S128x128 .bf16) : FVec F S128x128 .f32 := k0_pay8 a d
/-- The largest magnitude of every row, over 448. -/
def rowQ (v : FVec F S128x128 .f32) : FVec F S128x1 .f32 := k0_pay30 v
/-- The largest magnitude of every column, over 448. -/
def colQ (v : FVec F S128x128 .f32) : FVec F S1x128 .f32 := k0_pay39 (absf v)
/-- Clipped to the range of the codes. -/
def clipV (v : FVec F S128x128 .f32) : FVec F S128x128 .f32 :=
  minimumf (broadcast S128x128 (Scalar.ofBits .f32 0x43E00000#32)) (maximumf (broadcast S128x128 (Scalar.ofBits .f32 0xC3E00000#32)) v)
/-- The codes of a tile scaled by rows. -/
def rowCodes (v : FVec F S128x128 .f32) : FVec F S128x128 .fp8e4m3 :=
  truncf .fp8e4m3 (clipV (mulf v (broadcastTo S128x128 (invV (rowQ v)) broadcasts_S128x1_S128x128))) bitsLt_fp8e4m3_f32
/-- The codes of a tile scaled by columns, transposed. -/
def colCodes (v : FVec F S128x128 .f32) : FVec F S128x128 .fp8e4m3 :=
  transpose S128x128 [1, 0] (truncf .fp8e4m3 (clipV (mulf v (broadcastTo S128x128 (invV (colQ v)) broadcasts_S1x128_S128x128))) bitsLt_fp8e4m3_f32)
    transposes_S128x128_p1_0_S128x128
/-- The row scales laid over the 80 columns of the carried array at column `g`. -/
def putScale (v4 : IVec S128x80 32) (g : BitVec 32) (v : FVec F S128x128 .f32) (acc : FVec F S128x80 .f32) : FVec F S128x80 .f32 :=
  select (cmpi .eq v4 (broadcast S128x80 g)) (broadcastTo S128x80 (shapeCast S128x1 (scaleV (rowQ v)) shapeCasts_S128x1_S128x1) broadcasts_S128x1_S128x80) acc
/-- The column scales laid over one of eight rows. -/
def putRow (v3 : IVec S8x128 32) (r : BitVec 32) (v : FVec F S128x128 .f32) (old : Vec F S8x128 .f32) : FVec F S8x128 .f32 :=
  shapeCast S8x128 (select (cmpi .eq v3 (broadcast S8x128 r)) (broadcastTo S8x128 (shapeCast S1x128 (scaleV (colQ v)) shapeCasts_S1x128_S1x128) broadcasts_S1x128_S8x128) old) shapeCasts_S8x128_S8x128

/-! ## The offsets of the scratch -/

theorem k0_off5_eq_0 (i : grid0.Coords) (k : Fin k0_t1_loop.trips) : k0_off5 i k 0#32 = ![8 * ((i 0).val / 8), 128 * k.val] := by
  revert i k; decide +kernel
theorem k0_off5_eq_1 (i : grid0.Coords) (k : Fin k0_t1_loop.trips) : k0_off5 i k 5120#32 = ![8 * ((i 0).val / 8), 128 * k.val + 5120] := by
  revert i k; decide +kernel

instance (i : grid0.Coords) (k : Fin k0_t1_loop.trips) : ClosedOff (k0_off5 i k 0#32) := ⟨_, k0_off5_eq_0 i k⟩
instance (i : grid0.Coords) (k : Fin k0_t1_loop.trips) : ClosedOff (k0_off5 i k 5120#32) := ⟨_, k0_off5_eq_1 i k⟩

theorem k_lt (k : Fin k0_t1_loop.trips) : k.val < 40 := Nat.lt_of_lt_of_le k.isLt k0_t1_abs.2.1

theorem i_lt (i : grid0.Coords) : (i 0).val < 104 := (i 0).isLt
theorem inb7_0 (i : grid0.Coords) {k : ℕ} (hk : k < 40) : ∀ a : Fin 2, ![8 * ((i 0).val / 8), 128 * k] a + S8x128.size a ≤ S104x10240.size a := by
  have := i_lt i
  intro a; fin_cases a <;> simp [S8x128, S104x10240] <;> omega
theorem inb7_1 (i : grid0.Coords) {k : ℕ} (hk : k < 40) : ∀ a : Fin 2, ![8 * ((i 0).val / 8), 128 * k + 5120] a + S8x128.size a ≤ S104x10240.size a := by
  have := i_lt i
  intro a; fin_cases a <;> simp [S8x128, S104x10240] <;> omega

theorem inbx_0 {k : ℕ} (hk : k < 40) : ∀ a : Fin 2, ![0, 128 * k] a + S128x128.size a ≤ S128x10240.size a := by
  intro a; fin_cases a <;> simp [S128x128, S128x10240] <;> omega
theorem inbx_1 {k : ℕ} (hk : k < 40) : ∀ a : Fin 2, ![0, 128 * k + 5120] a + S128x128.size a ≤ S128x10240.size a := by
  intro a; fin_cases a <;> simp [S128x128, S128x10240] <;> omega
theorem inbd {k : ℕ} (hk : k < 40) : ∀ a : Fin 2, ![0, 128 * k] a + S128x128.size a ≤ S128x5120.size a := by
  intro a; fin_cases a <;> simp [S128x128, S128x5120] <;> omega
theorem off4_0 (k : Fin k0_t1_loop.trips) : k0_off4 k 0#32 = ![0, 128 * k.val] := by revert k; decide +kernel
theorem off4_1 (k : Fin k0_t1_loop.trips) : k0_off4 k 5120#32 = ![0, 128 * k.val + 5120] := by revert k; decide +kernel
theorem off6_0 (k : Fin k0_t1_loop.trips) : k0_off6 k 0#32 = ![128 * k.val, 0] := by revert k; decide +kernel
theorem off6_1 (k : Fin k0_t1_loop.trips) : k0_off6 k 5120#32 = ![128 * k.val + 5120, 0] := by revert k; decide +kernel

/-! ## The trip -/

variable (c : Dev nD) (i : grid0.Coords) (arg1 : Memref sig .tc .vmem S128x10240 .bf16) (harg1 : arg1.IsWhole) (arg2 : Memref sig .tc .vmem S128x5120 .bf16) (harg2 : arg2.IsWhole) (arg3 : Memref sig .tc .vmem S128x10240 .fp8e4m3) (harg3 : arg3.IsWhole) (arg4 : Memref sig .tc .vmem S128x80 .f32) (harg4 : arg4.IsWhole) (arg5 : Memref sig .tc .vmem S10240x128 .fp8e4m3) (harg5 : arg5.IsWhole) (arg6 : Memref sig .tc .vmem S10240x104 .f32) (harg6 : arg6.IsWhole) (arg7 : Memref sig .tc .vmem S104x10240 .f32) (harg7 : arg7.IsWhole)

/-- What a trip of the tile loop touches, by value. -/
abbrev Trip (x : Vec F S128x10240 .bf16) (d : Vec F S128x5120 .bf16) (y3 : Vec F S128x10240 .fp8e4m3) (y5 : Vec F S10240x128 .fp8e4m3) (y7 : Vec F S104x10240 .f32) : sProp 𝕄 :=
  iprop(owns (c : Thread nD τ) arg1 fullShare x ∗ owns (c : Thread nD τ) arg2 fullShare d
    ∗ owns (c : Thread nD τ) arg3 fullShare y3 ∗ owns (c : Thread nD τ) arg5 fullShare y5
    ∗ owns (c : Thread nD τ) arg7 fullShare y7)

/-- The gate tile of trip `k`. -/
def gTile (x : Vec F S128x10240 .bf16) (d : Vec F S128x5120 .bf16) (k : ℕ) (hk : k < 40) : FVec F S128x128 .f32 :=
  dG (VecWindow.window x ![0, 128 * k] S128x128.size (inbx_0 hk))
    (VecWindow.window x ![0, 128 * k + 5120] S128x128.size (inbx_1 hk))
    (VecWindow.window d ![0, 128 * k] S128x128.size (inbd hk))
/-- The other half's tile of trip `k`. -/
def uTile (x : Vec F S128x10240 .bf16) (d : Vec F S128x5120 .bf16) (k : ℕ) (hk : k < 40) : FVec F S128x128 .f32 :=
  dU (VecWindow.window x ![0, 128 * k] S128x128.size (inbx_0 hk))
    (VecWindow.window d ![0, 128 * k] S128x128.size (inbd hk))

set_option maxHeartbeats 8000000 in
theorem trip (E : Set ℕ) (x : Vec F S128x10240 .bf16) (d : Vec F S128x5120 .bf16) (y3 : Vec F S128x10240 .fp8e4m3) (y5 : Vec F S10240x128 .fp8e4m3) (y7 : Vec F S104x10240 .f32)
    (k : Fin k0_t1_loop.trips) (acc : FVec F S128x80 .f32) (v4 : IVec S128x80 32) :
    Trip c arg1 arg2 arg3 arg5 arg7 x d y3 y5 y7
    ⊢ wp frame (wpE (defs₀ (F := F)) Variants.none c none) E (k0_t1_body (F := F) i arg1 harg1 arg2 harg2 arg3 harg3 arg4 harg4 arg5 harg5 arg6 harg6 arg7 harg7
        (BitVec.ofNat 32 (i 0).val) (Scalar.shli (Scalar.shrui (BitVec.ofNat 32 (i 0).val) 3#32) 3#32) (iota .tc S8x128 32 [0] iota_S8x128_d0_w32) v4 k acc)
        (fun acc' => iprop(⌜acc' = putScale v4 (Scalar.addi 40#32 (Scf.iv 0#32 1#32 k)) (uTile x d k (k_lt k)) (putScale v4 (Scalar.addi 0#32 (Scf.iv 0#32 1#32 k)) (gTile x d k (k_lt k)) acc)⌝ ∗
          Trip c arg1 arg2 arg3 arg5 arg7 x d
            (VecWindow.put (VecWindow.put y3 ![0, 128 * k.val] S128x128.size (rowCodes (gTile x d k (k_lt k)))) ![0, 128 * k.val + 5120] S128x128.size (rowCodes (uTile x d k (k_lt k))))
            (VecWindow.put (VecWindow.put y5 ![128 * k.val, 0] S128x128.size (colCodes (gTile x d k (k_lt k)))) ![128 * k.val + 5120, 0] S128x128.size (colCodes (uTile x d k (k_lt k))))
            (VecWindow.put (VecWindow.put y7 ![8 * ((i 0).val / 8), 128 * k.val] S8x128.size
                (putRow (iota .tc S8x128 32 [0] iota_S8x128_d0_w32) (Scalar.subi (BitVec.ofNat 32 (i 0).val) (Scalar.shli (Scalar.shrui (BitVec.ofNat 32 (i 0).val) 3#32) 3#32)) (gTile x d k (k_lt k))
                  (VecWindow.window y7 ![8 * ((i 0).val / 8), 128 * k.val] S8x128.size (inb7_0 i (k_lt k)))))
              ![8 * ((i 0).val / 8), 128 * k.val + 5120] S8x128.size
                (putRow (iota .tc S8x128 32 [0] iota_S8x128_d0_w32) (Scalar.subi (BitVec.ofNat 32 (i 0).val) (Scalar.shli (Scalar.shrui (BitVec.ofNat 32 (i 0).val) 3#32) 3#32)) (uTile x d k (k_lt k))
                  (VecWindow.window y7 ![8 * ((i 0).val / 8), 128 * k.val + 5120] S8x128.size (inb7_1 i (k_lt k))))))) := by
  have hk : k.val < 40 := k_lt k
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold Trip owns
  iintro ⟨⟨%f1, %h1, H1⟩, ⟨%f2, %h2, H2⟩, ⟨%f3, %h3, H3⟩, ⟨%f5, %h5, H5⟩, ⟨%f7, %h7, H7⟩⟩
  subst h1 h2 h3 h5 h7
  sl_exec
  sl_step
  have e1 : View.readAt (Elt F) arg1.view (Rect.unit (s := S128x10240) (k0_off1 k) S128x128.size (k0_off1_inb k)).toLoadRect f1 = VecWindow.window (arg1.view.read (Elt F) f1) ![0, 128 * k.val] S128x128.size (inbx_0 hk) :=
    View.readAt_unit _ _ _ (k0_off1_eq k) _
  have e2 : View.readAt (Elt F) arg1.view (Rect.unit (s := S128x10240) (k0_off2 k) S128x128.size (k0_off2_inb k)).toLoadRect f1 = VecWindow.window (arg1.view.read (Elt F) f1) ![0, 128 * k.val + 5120] S128x128.size (inbx_1 hk) :=
    View.readAt_unit _ _ _ (k0_off2_eq k) _
  have e3 : View.readAt (Elt F) arg2.view (Rect.unit (s := S128x5120) (k0_off3 k) S128x128.size (k0_off3_inb k)).toLoadRect f2 = VecWindow.window (arg2.view.read (Elt F) f2) ![0, 128 * k.val] S128x128.size (inbd hk) :=
    View.readAt_unit _ _ _ (k0_off3_eq k) _
  have hG : gTile (arg1.view.read (Elt F) f1) (arg2.view.read (Elt F) f2) k hk = dG (View.readAt (Elt F) arg1.view (Rect.unit (s := S128x10240) (k0_off1 k) S128x128.size (k0_off1_inb k)).toLoadRect f1)
      (View.readAt (Elt F) arg1.view (Rect.unit (s := S128x10240) (k0_off2 k) S128x128.size (k0_off2_inb k)).toLoadRect f1)
      (View.readAt (Elt F) arg2.view (Rect.unit (s := S128x5120) (k0_off3 k) S128x128.size (k0_off3_inb k)).toLoadRect f2) := by rw [e1, e2, e3]; rfl
  have hU : uTile (arg1.view.read (Elt F) f1) (arg2.view.read (Elt F) f2) k hk = dU (View.readAt (Elt F) arg1.view (Rect.unit (s := S128x10240) (k0_off1 k) S128x128.size (k0_off1_inb k)).toLoadRect f1)
      (View.readAt (Elt F) arg2.view (Rect.unit (s := S128x5120) (k0_off3 k) S128x128.size (k0_off3_inb k)).toLoadRect f2) := by rw [e1, e3]; rfl
  isplitr
  · ipureintro
    rw [hG, hU]
    rfl
  isplitl [H1]
  · iexists f1; isplitr
    · ipureintro; rfl
    · iexact H1
  isplitl [H2]
  · iexists f2; isplitr
    · ipureintro; rfl
    · iexact H2
  isplitl [H3]
  · iexists _; isplitr; rotate_left; · iexact H3
    ipureintro
    rw [hG, hU, View.read_writes_cons_put arg3.view f3 _ _ _ (off4_1 k), View.read_writes_cons_put arg3.view f3 _ _ _ (off4_0 k)]
    rfl
  isplitl [H5]
  · iexists _; isplitr; rotate_left; · iexact H5
    ipureintro
    rw [hG, hU, View.read_writes_cons_put arg5.view f5 _ _ _ (off6_1 k), View.read_writes_cons_put arg5.view f5 _ _ _ (off6_0 k)]
    rfl
  · iexists _; isplitr; rotate_left; · iexact H7
    ipureintro
    have e4 : View.readAt (Elt F) arg7.view (Rect.unit (s := S104x10240) (k0_off5 i k 0#32) S8x128.size (k0_off5_inb i k 0)).toLoadRect f7 = VecWindow.window (arg7.view.read (Elt F) f7) ![8 * ((i 0).val / 8), 128 * k.val] S8x128.size (inb7_0 i hk) :=
      View.readAt_unit _ _ _ (k0_off5_eq_0 i k) _
    have e5 : View.readAt (Elt F) arg7.view (Rect.unit (s := S104x10240) (k0_off5 i k 5120#32) S8x128.size (k0_off5_inb i k 1)).toLoadRect f7 = VecWindow.window (arg7.view.read (Elt F) f7) ![8 * ((i 0).val / 8), 128 * k.val + 5120] S8x128.size (inb7_1 i hk) :=
      View.readAt_unit _ _ _ (k0_off5_eq_1 i k) _
    rw [hG, hU, ← e4, ← e5, View.read_writes_cons_put arg7.view f7 _ _ _ (k0_off5_eq_1 i k), View.read_writes_cons_put arg7.view f7 _ _ _ (k0_off5_eq_0 i k)]
    rfl

end Cert.KernelIdeal.Hand
-- ==== Proof.KernelIdeal.Block.lean ====
module

public import proofs.«01_k».proof.Proof.KernelIdeal.Trip
public import Idealize.ShloMosaic.Lib.ValueLayout
public import Idealize.ShloMosaic.Lib.WordCmp
public import Idealize.ShloMosaic.Lib.Pipeline.Value

/-! What the whole tile loop leaves in each buffer for one block of 128 rows, and what the final loop leaves in the
transposed scales, both as plain functions. -/

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The results of one block -/

/-- Tile `g` of the 80 tiles of a block's gradient. -/
def tileOf (x : Vec F S128x10240 .bf16) (d : Vec F S128x5120 .bf16) (g : ℕ) : FVec F S128x128 .f32 :=
  if h : g < 40 then gTile x d g h else if h' : g - 40 < 40 then uTile x d (g - 40) h' else uTile x d 0 (by omega)

theorem tileOf_g (x : Vec F S128x10240 .bf16) (d : Vec F S128x5120 .bf16) {g k : ℕ} (hk : k < 40) (e : g = k) : tileOf x d g = gTile x d k hk := by
  subst e; exact dif_pos hk
theorem tileOf_u (x : Vec F S128x10240 .bf16) (d : Vec F S128x5120 .bf16) {g k : ℕ} (hk : k < 40) (e : g = k + 40) : tileOf x d g = uTile x d k hk := by
  subst e
  unfold tileOf
  rw [dif_neg (by omega)]
  simp only [Nat.add_sub_cancel]
  exact dif_pos hk

/-- The row codes of the block. -/
def rcV (x : Vec F S128x10240 .bf16) (d : Vec F S128x5120 .bf16) : Vec F S128x10240 .fp8e4m3 := fun y =>
  rowCodes (tileOf x d ((y 1).val / 128)) (ix2 (n0 := 128) (n1 := 128) (y 0) ⟨(y 1).val % 128, Nat.mod_lt _ (by decide)⟩)
/-- The transposed column codes of the block. -/
def ccV (x : Vec F S128x10240 .bf16) (d : Vec F S128x5120 .bf16) : Vec F S10240x128 .fp8e4m3 := fun y =>
  colCodes (tileOf x d ((y 0).val / 128)) (ix2 (n0 := 128) (n1 := 128) ⟨(y 0).val % 128, Nat.mod_lt _ (by decide)⟩ (y 1))
/-- The row scales of the block. -/
def rsV (x : Vec F S128x10240 .bf16) (d : Vec F S128x5120 .bf16) : Vec F S128x80 .f32 := fun y =>
  scaleV (rowQ (tileOf x d (y 1).val)) (ix2 (n0 := 128) (n1 := 1) (y 0) 0)
/-- The column scales of the block. -/
def csV (x : Vec F S128x10240 .bf16) (d : Vec F S128x5120 .bf16) (j : Fin 10240) : Elt F .f32 :=
  scaleV (colQ (tileOf x d (j.val / 128))) (ix2 (n0 := 1) (n1 := 128) 0 ⟨j.val % 128, Nat.mod_lt _ (by decide)⟩)

/-- The row codes before trip `k`. -/
def rcK (x : Vec F S128x10240 .bf16) (d : Vec F S128x5120 .bf16) (y3 : Vec F S128x10240 .fp8e4m3) (k : ℕ) : Vec F S128x10240 .fp8e4m3 := fun y =>
  if (y 1).val % 5120 / 128 < k then rcV x d y else y3 y
/-- The column codes before trip `k`. -/
def ccK (x : Vec F S128x10240 .bf16) (d : Vec F S128x5120 .bf16) (y5 : Vec F S10240x128 .fp8e4m3) (k : ℕ) : Vec F S10240x128 .fp8e4m3 := fun y =>
  if (y 0).val % 5120 / 128 < k then ccV x d y else y5 y
/-- The row scales before trip `k`. -/
def rsK (x : Vec F S128x10240 .bf16) (d : Vec F S128x5120 .bf16) (acc : FVec F S128x80 .f32) (k : ℕ) : FVec F S128x80 .f32 := fun y =>
  if (y 1).val % 40 < k then rsV x d y else acc y
/-- The scratch before trip `k` of block `i`. -/
def csK (i : ℕ) (x : Vec F S128x10240 .bf16) (d : Vec F S128x5120 .bf16) (y7 : Vec F S104x10240 .f32) (k : ℕ) : Vec F S104x10240 .f32 := fun y =>
  if (y 0).val = i ∧ (y 1).val % 5120 / 128 < k then csV x d (y 1) else y7 y

/-- A put read at an index inside it. -/
theorem put_in {α : Type} {m n a b : ℕ} (x : (⟨2, ![m, n]⟩ : Shape).Idx → α) (o0 o1 : ℕ) (w : (⟨2, ![a, b]⟩ : Shape).Idx → α) (y : (⟨2, ![m, n]⟩ : Shape).Idx)
    (h0 : o0 ≤ (y 0).val ∧ (y 0).val < o0 + a) (h1 : o1 ≤ (y 1).val ∧ (y 1).val < o1 + b) :
    VecWindow.put (s := ⟨2, ![m, n]⟩) x ![o0, o1] (⟨2, ![a, b]⟩ : Shape).size w y = w (ix2 ⟨(y 0).val - o0, by omega⟩ ⟨(y 1).val - o1, by omega⟩) := by
  have h : ∀ c : Fin 2, ![o0, o1] c ≤ (y c).val ∧ (y c).val < ![o0, o1] c + (⟨2, ![a, b]⟩ : Shape).size c := fun c => by
    fin_cases c
    · exact h0
    · exact h1
  refine (dif_pos h).trans (congrArg w (funext fun c => ?_))
  fin_cases c <;> rfl
/-- A put read at an index outside it. -/
theorem put_out {α : Type} {m n a b : ℕ} (x : (⟨2, ![m, n]⟩ : Shape).Idx → α) (o0 o1 : ℕ) (w : (⟨2, ![a, b]⟩ : Shape).Idx → α) (y : (⟨2, ![m, n]⟩ : Shape).Idx)
    (h : ¬ ((o0 ≤ (y 0).val ∧ (y 0).val < o0 + a) ∧ (o1 ≤ (y 1).val ∧ (y 1).val < o1 + b))) :
    VecWindow.put (s := ⟨2, ![m, n]⟩) x ![o0, o1] (⟨2, ![a, b]⟩ : Shape).size w y = x y :=
  dif_neg fun g => h ⟨g 0, g 1⟩

theorem rcK_succ (x : Vec F S128x10240 .bf16) (d : Vec F S128x5120 .bf16) (y3 : Vec F S128x10240 .fp8e4m3) (k : ℕ) (hk : k < 40) :
    VecWindow.put (s := S128x10240) (VecWindow.put (s := S128x10240) (rcK x d y3 k) ![0, 128 * k] S128x128.size (rowCodes (gTile x d k hk))) ![0, 128 * k + 5120] S128x128.size (rowCodes (uTile x d k hk))
      = rcK x d y3 (k + 1) := by
  funext y
  have hy0 : (y 0).val < 128 := (y 0).isLt
  have hy1 : (y 1).val < 10240 := (y 1).isLt
  by_cases hu : 128 * k + 5120 ≤ (y 1).val ∧ (y 1).val < 128 * k + 5120 + 128
  · refine (put_in (m := 128) (n := 10240) (a := 128) (b := 128) _ _ _ _ y ⟨by omega, by omega⟩ hu).trans ?_
    unfold rcK rcV
    rw [if_pos (by omega), tileOf_u x d hk (by omega)]
    refine congrArg _ (funext fun c => Fin.ext ?_)
    fin_cases c
    · show (y 0).val - 0 = (y 0).val; omega
    · show (y 1).val - (128 * k + 5120) = (y 1).val % 128; omega
  · refine (put_out (m := 128) (n := 10240) (a := 128) (b := 128) _ _ _ _ y fun h => hu h.2).trans ?_
    by_cases hg : 128 * k ≤ (y 1).val ∧ (y 1).val < 128 * k + 128
    · refine (put_in (m := 128) (n := 10240) (a := 128) (b := 128) _ _ _ _ y ⟨by omega, by omega⟩ hg).trans ?_
      unfold rcK rcV
      rw [if_pos (by omega), tileOf_g x d hk (by omega)]
      refine congrArg _ (funext fun c => Fin.ext ?_)
      fin_cases c
      · show (y 0).val - 0 = (y 0).val; omega
      · show (y 1).val - (128 * k) = (y 1).val % 128; omega
    · refine (put_out (m := 128) (n := 10240) (a := 128) (b := 128) _ _ _ _ y fun h => hg h.2).trans ?_
      unfold rcK
      by_cases hlt : (y 1).val % 5120 / 128 < k
      · rw [if_pos hlt, if_pos (by omega)]
      · rw [if_neg hlt, if_neg (by omega)]

theorem ccK_succ (x : Vec F S128x10240 .bf16) (d : Vec F S128x5120 .bf16) (y5 : Vec F S10240x128 .fp8e4m3) (k : ℕ) (hk : k < 40) :
    VecWindow.put (s := S10240x128) (VecWindow.put (s := S10240x128) (ccK x d y5 k) ![128 * k, 0] S128x128.size (colCodes (gTile x d k hk))) ![128 * k + 5120, 0] S128x128.size (colCodes (uTile x d k hk))
      = ccK x d y5 (k + 1) := by
  funext y
  have hy0 : (y 0).val < 10240 := (y 0).isLt
  have hy1 : (y 1).val < 128 := (y 1).isLt
  by_cases hu : 128 * k + 5120 ≤ (y 0).val ∧ (y 0).val < 128 * k + 5120 + 128
  · refine (put_in (m := 10240) (n := 128) (a := 128) (b := 128) _ _ _ _ y hu ⟨by omega, by omega⟩).trans ?_
    unfold ccK ccV
    rw [if_pos (by omega), tileOf_u x d hk (by omega)]
    refine congrArg _ (funext fun c => Fin.ext ?_)
    fin_cases c
    · show (y 0).val - (128 * k + 5120) = (y 0).val % 128; omega
    · show (y 1).val - 0 = (y 1).val; omega
  · refine (put_out (m := 10240) (n := 128) (a := 128) (b := 128) _ _ _ _ y fun h => hu h.1).trans ?_
    by_cases hg : 128 * k ≤ (y 0).val ∧ (y 0).val < 128 * k + 128
    · refine (put_in (m := 10240) (n := 128) (a := 128) (b := 128) _ _ _ _ y hg ⟨by omega, by omega⟩).trans ?_
      unfold ccK ccV
      rw [if_pos (by omega), tileOf_g x d hk (by omega)]
      refine congrArg _ (funext fun c => Fin.ext ?_)
      fin_cases c
      · show (y 0).val - (128 * k) = (y 0).val % 128; omega
      · show (y 1).val - 0 = (y 1).val; omega
    · refine (put_out (m := 10240) (n := 128) (a := 128) (b := 128) _ _ _ _ y fun h => hg h.1).trans ?_
      unfold ccK
      by_cases hlt : (y 0).val % 5120 / 128 < k
      · rw [if_pos hlt, if_pos (by omega)]
      · rw [if_neg hlt, if_neg (by omega)]

/-- A column broadcast over many reads its own element. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem putScale_apply (g : BitVec 32) (n : Fin 80) (hg : g = BitVec.ofNat 32 n.val) (v : FVec F S128x128 .f32) (acc : FVec F S128x80 .f32) (y : S128x80.Idx) :
    putScale (iota .tc S128x80 32 [1] iota_S128x80_d1_w32) g v acc y
      = if (y 1).val = n.val then scaleV (rowQ v) (ix2 (n0 := 128) (n1 := 1) (y 0) 0) else acc y := by
  unfold putScale
  rw [shapeCast_self]
  show Scalar.select (IntOp.cmpi .eq (BitVec.ofNat 32 (([1] : List (Fin 2)).foldl (fun n a => n * S128x80.size a + (y a).val) 0)) g) _ _ = _
  have e : ([1] : List (Fin 2)).foldl (fun n a => n * S128x80.size a + (y a).val) 0 = (y 1).val := by simp
  have hy1 : (y 1).val < 80 := (y 1).isLt
  have hn := n.isLt
  rw [e]
  by_cases h : (y 1).val = n.val
  · rw [if_pos h, IntOp.cmpi_eq.2 (by rw [h, hg])]
    obtain ⟨p, q, rfl⟩ : ∃ (p : Fin 128) (q : Fin 80), y = ix2 p q := ⟨y 0, y 1, eq_ix2 y⟩
    exact (if_pos rfl).trans (broadcastTo_a1_ab_apply _ _ p q)
  · rw [if_neg h]
    have hne : IntOp.cmpi .eq (BitVec.ofNat 32 (y 1).val) g ≠ 1#1 := fun hc => h (by
      have := IntOp.cmpi_eq.1 hc
      rw [hg] at this
      have h2 := congrArg BitVec.toNat this
      simp only [BitVec.toNat_ofNat] at h2
      omega)
    exact if_neg hne

theorem rsK_succ (x : Vec F S128x10240 .bf16) (d : Vec F S128x5120 .bf16) (acc : FVec F S128x80 .f32) (k : Fin k0_t1_loop.trips) :
    putScale (iota .tc S128x80 32 [1] iota_S128x80_d1_w32) (Scalar.addi 40#32 (Scf.iv 0#32 1#32 k)) (uTile x d k (k_lt k))
        (putScale (iota .tc S128x80 32 [1] iota_S128x80_d1_w32) (Scalar.addi 0#32 (Scf.iv 0#32 1#32 k)) (gTile x d k (k_lt k)) (rsK x d acc k))
      = rsK x d acc (k.val + 1) := by
  have hk := k_lt k
  funext y
  have hy1 : (y 1).val < 80 := (y 1).isLt
  have hu : ∀ k : Fin k0_t1_loop.trips, Scalar.addi 40#32 (Scf.iv 0#32 1#32 k) = BitVec.ofNat 32 (k.val + 40) := by decide +kernel
  have hg : ∀ k : Fin k0_t1_loop.trips, Scalar.addi 0#32 (Scf.iv 0#32 1#32 k) = BitVec.ofNat 32 k.val := by decide +kernel
  rw [putScale_apply _ ⟨k.val + 40, by omega⟩ (hu k), putScale_apply _ ⟨k.val, by omega⟩ (hg k)]
  unfold rsK rsV
  by_cases h1 : (y 1).val = k.val + 40
  · rw [if_pos h1, if_pos (by omega), tileOf_u x d hk h1]
  · rw [if_neg h1]
    by_cases h2 : (y 1).val = k.val
    · rw [if_pos h2, if_pos (by omega), tileOf_g x d hk h2]
    · rw [if_neg h2]
      by_cases hlt : (y 1).val % 40 < k.val
      · rw [if_pos hlt, if_pos (by omega)]
      · rw [if_neg hlt, if_neg (by omega)]

theorem putRow_apply (i : grid0.Coords) (v : FVec F S128x128 .f32) (old : Vec F S8x128 .f32) (y : S8x128.Idx) :
    putRow (iota .tc S8x128 32 [0] iota_S8x128_d0_w32) (Scalar.subi (BitVec.ofNat 32 (i 0).val) (Scalar.shli (Scalar.shrui (BitVec.ofNat 32 (i 0).val) 3#32) 3#32)) v old y
      = if (y 0).val = (i 0).val % 8 then scaleV (colQ v) (ix2 (n0 := 1) (n1 := 128) 0 (y 1)) else old y := by
  unfold putRow
  rw [shapeCast_self, shapeCast_self]
  show Scalar.select (IntOp.cmpi .eq (BitVec.ofNat 32 (([0] : List (Fin 2)).foldl (fun n a => n * S8x128.size a + (y a).val) 0)) _) _ _ = _
  have e : ([0] : List (Fin 2)).foldl (fun n a => n * S8x128.size a + (y a).val) 0 = (y 0).val := by simp
  have hy0 : (y 0).val < 8 := (y 0).isLt
  have hr : ∀ i : Fin 104, (Scalar.subi (BitVec.ofNat 32 i.val) (Scalar.shli (Scalar.shrui (BitVec.ofNat 32 i.val) 3#32) 3#32)) = BitVec.ofNat 32 (i.val % 8) := by decide +kernel
  rw [e, hr (i 0), broadcast_apply]
  by_cases h : (y 0).val = (i 0).val % 8
  · rw [if_pos h, IntOp.cmpi_eq.2 (congrArg (BitVec.ofNat 32) h)]
    obtain ⟨p, q, rfl⟩ : ∃ (p : Fin 8) (q : Fin 128), y = ix2 p q := ⟨y 0, y 1, eq_ix2 y⟩
    exact (if_pos rfl).trans (broadcastTo_1b_ab_apply _ _ p q)
  · rw [if_neg h]
    have hne : IntOp.cmpi .eq (BitVec.ofNat 32 (y 0).val) (BitVec.ofNat 32 ((i 0).val % 8)) ≠ 1#1 := fun hc => h (by
      have h2 := congrArg BitVec.toNat (IntOp.cmpi_eq.1 hc)
      simp only [BitVec.toNat_ofNat] at h2
      omega)
    exact if_neg hne

/-- A row laid over one of eight rows of the scratch, read at an index. -/
theorem putRow_put (i : grid0.Coords) (z y7 : Vec F S104x10240 .f32) (v : FVec F S128x128 .f32) (o : ℕ) (inb) (hz : ∀ y, o ≤ (y 1).val → (y 1).val < o + 128 → y7 y = z y) (y : S104x10240.Idx) :
    VecWindow.put (s := S104x10240) z ![8 * ((i 0).val / 8), o] S8x128.size
      (putRow (iota .tc S8x128 32 [0] iota_S8x128_d0_w32) (Scalar.subi (BitVec.ofNat 32 (i 0).val) (Scalar.shli (Scalar.shrui (BitVec.ofNat 32 (i 0).val) 3#32) 3#32)) v
        (VecWindow.window (s := S104x10240) y7 ![8 * ((i 0).val / 8), o] S8x128.size inb)) y
    = if h : (y 0).val = (i 0).val ∧ o ≤ (y 1).val ∧ (y 1).val < o + 128 then scaleV (colQ v) (ix2 (n0 := 1) (n1 := 128) 0 ⟨(y 1).val - o, by omega⟩) else z y := by
  have hi := i_lt i
  by_cases hp : (8 * ((i 0).val / 8) ≤ (y 0).val ∧ (y 0).val < 8 * ((i 0).val / 8) + 8) ∧ (o ≤ (y 1).val ∧ (y 1).val < o + 128)
  · refine (put_in (m := 104) (n := 10240) (a := 8) (b := 128) _ _ _ _ y hp.1 hp.2).trans ?_
    rw [putRow_apply]
    by_cases h : (y 0).val = (i 0).val
    · rw [dif_pos ⟨h, hp.2⟩, if_pos (by show (y 0).val - 8 * ((i 0).val / 8) = (i 0).val % 8; omega)]
    · rw [dif_neg fun g => h g.1, if_neg (by show ¬ (y 0).val - 8 * ((i 0).val / 8) = (i 0).val % 8; omega)]
      rw [← hz y hp.2.1 hp.2.2]
      show y7 _ = y7 y
      refine congrArg _ (funext fun c => Fin.ext ?_)
      fin_cases c
      · show 8 * ((i 0).val / 8) + 1 * ((y 0).val - 8 * ((i 0).val / 8)) = (y 0).val; omega
      · show o + 1 * ((y 1).val - o) = (y 1).val; omega
  · rw [dif_neg (fun g => hp (by omega))]
    exact put_out (m := 104) (n := 10240) (a := 8) (b := 128) _ _ _ _ y hp

theorem csK_succ (i : grid0.Coords) (x : Vec F S128x10240 .bf16) (d : Vec F S128x5120 .bf16) (y7 : Vec F S104x10240 .f32) (k : ℕ) (hk : k < 40) :
    (VecWindow.put (s := S104x10240) (VecWindow.put (s := S104x10240) (csK (i 0).val x d y7 k) ![8 * ((i 0).val / 8), 128 * k] S8x128.size
                (putRow (iota .tc S8x128 32 [0] iota_S8x128_d0_w32) (Scalar.subi (BitVec.ofNat 32 (i 0).val) (Scalar.shli (Scalar.shrui (BitVec.ofNat 32 (i 0).val) 3#32) 3#32)) (gTile x d k hk)
                  (VecWindow.window (s := S104x10240) (csK (i 0).val x d y7 k) ![8 * ((i 0).val / 8), 128 * k] S8x128.size (inb7_0 i hk))))
              ![8 * ((i 0).val / 8), 128 * k + 5120] S8x128.size
                (putRow (iota .tc S8x128 32 [0] iota_S8x128_d0_w32) (Scalar.subi (BitVec.ofNat 32 (i 0).val) (Scalar.shli (Scalar.shrui (BitVec.ofNat 32 (i 0).val) 3#32) 3#32)) (uTile x d k hk)
                  (VecWindow.window (s := S104x10240) (csK (i 0).val x d y7 k) ![8 * ((i 0).val / 8), 128 * k + 5120] S8x128.size (inb7_1 i hk))))
      = csK (i 0).val x d y7 (k + 1) := by
  funext y
  have hy1 : (y 1).val < 10240 := (y 1).isLt
  rw [putRow_put i _ _ _ _ _ (fun y h1 h2 => by
    rw [putRow_put i _ _ _ _ _ (fun _ _ _ => rfl), dif_neg (by omega)]), putRow_put i _ _ _ _ _ (fun _ _ _ => rfl)]
  unfold csK csV
  by_cases hu : (y 0).val = (i 0).val ∧ 128 * k + 5120 ≤ (y 1).val ∧ (y 1).val < 128 * k + 5120 + 128
  · rw [dif_pos hu, if_pos (by omega), tileOf_u x d hk (by omega)]
    refine congrArg _ (funext fun c => Fin.ext ?_)
    fin_cases c
    · rfl
    · show (y 1).val - (128 * k + 5120) = (y 1).val % 128; omega
  · rw [dif_neg hu]
    by_cases hg : (y 0).val = (i 0).val ∧ 128 * k ≤ (y 1).val ∧ (y 1).val < 128 * k + 128
    · rw [dif_pos hg, if_pos (by omega), tileOf_g x d hk (by omega)]
      refine congrArg _ (funext fun c => Fin.ext ?_)
      fin_cases c
      · rfl
      · show (y 1).val - (128 * k) = (y 1).val % 128; omega
    · rw [dif_neg hg]
      by_cases hlt : (y 0).val = (i 0).val ∧ (y 1).val % 5120 / 128 < k
      · rw [if_pos hlt, if_pos (by omega)]
      · rw [if_neg hlt, if_neg (by omega)]

theorem trips1 : k0_t1_loop.trips = 40 := by decide +kernel
theorem trips2 : k0_t2_loop.trips = 80 := by decide +kernel

/-- After the last trip nothing of the row codes that were there is left. -/
theorem rcK_all (x : Vec F S128x10240 .bf16) (d : Vec F S128x5120 .bf16) (y3) : rcK x d y3 40 = rcV x d := by
  funext y; exact if_pos (by have : (y 1).val < 10240 := (y 1).isLt; omega)
theorem ccK_all (x : Vec F S128x10240 .bf16) (d : Vec F S128x5120 .bf16) (y5) : ccK x d y5 40 = ccV x d := by
  funext y; exact if_pos (by have : (y 0).val < 10240 := (y 0).isLt; omega)
theorem rsK_all (x : Vec F S128x10240 .bf16) (d : Vec F S128x5120 .bf16) (acc) : rsK x d acc 40 = rsV x d := by
  funext y; exact if_pos (by omega)
/-- The scratch after block `i`: its row holds the block's column scales. -/
def csAfter (i : ℕ) (x : Vec F S128x10240 .bf16) (d : Vec F S128x5120 .bf16) (y7 : Vec F S104x10240 .f32) : Vec F S104x10240 .f32 := fun y =>
  if (y 0).val = i then csV x d (y 1) else y7 y
theorem csK_all (i : ℕ) (x : Vec F S128x10240 .bf16) (d : Vec F S128x5120 .bf16) (y7) : csK i x d y7 40 = csAfter i x d y7 := by
  funext y
  have : (y 1).val < 10240 := (y 1).isLt
  unfold csK csAfter
  by_cases h : (y 0).val = i
  · rw [if_pos h, if_pos ⟨h, by omega⟩]
  · rw [if_neg h, if_neg fun g => h g.1]

variable (c : Dev nD) (i : grid0.Coords) (arg1 : Memref sig .tc .vmem S128x10240 .bf16) (harg1 : arg1.IsWhole) (arg2 : Memref sig .tc .vmem S128x5120 .bf16) (harg2 : arg2.IsWhole) (arg3 : Memref sig .tc .vmem S128x10240 .fp8e4m3) (harg3 : arg3.IsWhole) (arg4 : Memref sig .tc .vmem S128x80 .f32) (harg4 : arg4.IsWhole) (arg5 : Memref sig .tc .vmem S10240x128 .fp8e4m3) (harg5 : arg5.IsWhole) (arg6 : Memref sig .tc .vmem S10240x104 .f32) (harg6 : arg6.IsWhole) (arg7 : Memref sig .tc .vmem S104x10240 .f32) (harg7 : arg7.IsWhole)

/-- The tile loop by its invariant. -/
@[instance_reducible] def loop1 (E : Set ℕ) (x : Vec F S128x10240 .bf16) (d : Vec F S128x5120 .bf16) (y3 : Vec F S128x10240 .fp8e4m3) (y5 : Vec F S10240x128 .fp8e4m3) (y7 : Vec F S104x10240 .f32) (init : FVec F S128x80 .f32) :
    LoopInvTy_k0_t1 (F := F) Unit ℕ (UR sig nD τ) ℕ Variants.none c none E i arg1 harg1 arg2 harg2 arg3 harg3 arg4 harg4 arg5 harg5 arg6 harg6 arg7 harg7
      (BitVec.ofNat 32 (i 0).val) (Scalar.shli (Scalar.shrui (BitVec.ofNat 32 (i 0).val) 3#32) 3#32) (iota .tc S8x128 32 [0] iota_S8x128_d0_w32) (iota .tc S128x80 32 [1] iota_S128x80_d1_w32) init where
  inv k acc := iprop(⌜acc = rsK x d init k⌝ ∗ Trip c arg1 arg2 arg3 arg5 arg7 x d (rcK x d y3 k) (ccK x d y5 k) (csK (i 0).val x d y7 k))
  step k acc := by
    iintro ⟨%hacc, HT⟩
    subst hacc
    iapply (wp_wand_r Idealize.ShloMosaic.frame (wpE (defs₀ (F := F)) Variants.none (c : Thread nD τ) none) E)
    isplitl [HT]
    · iapply (trip c i arg1 harg1 arg2 harg2 arg3 harg3 arg4 harg4 arg5 harg5 arg6 harg6 arg7 harg7 E) $$ HT
    · iintro %acc' ⟨%hacc', HT⟩
      isplitr
      · ipureintro; rw [hacc', rsK_succ]
      · rw [rcK_succ, ccK_succ, csK_succ]
        iexact HT

/-- The transposed scratch. -/
def trV (z : Vec F S104x10240 .f32) : Vec F S10240x104 .f32 := fun y => z (ix2 (n0 := 104) (n1 := 10240) (y 1) (y 0))
/-- The transposed scratch before trip `k`. -/
def trK (z : Vec F S104x10240 .f32) (y6 : Vec F S10240x104 .f32) (k : ℕ) : Vec F S10240x104 .f32 := fun y =>
  if (y 0).val / 128 < k then trV z y else y6 y

theorem inbt {k : ℕ} (hk : k < 80) : ∀ a : Fin 2, ![0, 128 * k] a + S104x128.size a ≤ S104x10240.size a := by
  intro a; fin_cases a <;> simp [S104x128, S104x10240] <;> omega

theorem trK_succ (z : Vec F S104x10240 .f32) (y6 : Vec F S10240x104 .f32) (k : ℕ) (hk : k < 80) :
    VecWindow.put (s := S10240x104) (trK z y6 k) ![128 * k, 0] S128x104.size (k0_pay4 (VecWindow.window (s := S104x10240) z ![0, 128 * k] S104x128.size (inbt hk))) = trK z y6 (k + 1) := by
  funext y
  have hy0 : (y 0).val < 10240 := (y 0).isLt
  have hy1 : (y 1).val < 104 := (y 1).isLt
  by_cases hu : 128 * k ≤ (y 0).val ∧ (y 0).val < 128 * k + 128
  · refine (put_in (m := 10240) (n := 104) (a := 128) (b := 104) _ _ _ _ y hu ⟨by omega, by omega⟩).trans ?_
    refine (transpose_ix2_apply (a := 104) (b := 128) (VecWindow.window (s := S104x10240) z ![0, 128 * k] S104x128.size (inbt hk)) transposes_S104x128_p1_0_S128x104 _ _).trans ?_
    unfold trK trV
    rw [if_pos (by omega)]
    show z _ = z _
    refine congrArg _ (funext fun c => Fin.ext ?_)
    fin_cases c
    · show 0 + 1 * ((y 1).val - 0) = (y 1).val; omega
    · show 128 * k + 1 * ((y 0).val - 128 * k) = (y 0).val; omega
  · refine (put_out (m := 10240) (n := 104) (a := 128) (b := 104) _ _ _ _ y fun h => hu h.1).trans ?_
    unfold trK
    by_cases hlt : (y 0).val / 128 < k
    · rw [if_pos hlt, if_pos (by omega)]
    · rw [if_neg hlt, if_neg (by omega)]
theorem trK_all (z : Vec F S104x10240 .f32) (y6) : trK z y6 80 = trV z := by
  funext y; exact if_pos (by have : (y 0).val < 10240 := (y 0).isLt; omega)

theorem trip2 (E : Set ℕ) (k0_h1 : k0_cond1 i = 1#1) (z : Vec F S104x10240 .f32) (y6 : Vec F S10240x104 .f32) (k : Fin k0_t2_loop.trips) :
    (iprop(owns (c : Thread nD τ) arg7 fullShare z ∗ owns (c : Thread nD τ) arg6 fullShare y6) : sProp 𝕄)
    ⊢ wp frame (wpE (defs₀ (F := F)) Variants.none c none) E (k0_t2_body (F := F) i arg1 harg1 arg2 harg2 arg3 harg3 arg4 harg4 arg5 harg5 arg6 harg6 arg7 harg7 k0_h1 k PUnit.unit)
        (fun _ => iprop(owns (c : Thread nD τ) arg7 fullShare z ∗ owns (c : Thread nD τ) arg6 fullShare
          (VecWindow.put (s := S10240x104) y6 ![128 * k.val, 0] S128x104.size (k0_pay4 (VecWindow.window (s := S104x10240) z ![0, 128 * k.val] S104x128.size (inbt (trips2 ▸ k.isLt))))))) := by
  have hk : k.val < 80 := trips2 ▸ k.isLt
  unfold owns k0_t2_body
  iintro ⟨⟨%f7, %h7, H7⟩, ⟨%f6, %h6, H6⟩⟩
  subst h7 h6
  sl_exec
  sl_step
  isplitl [H7]
  · iexists f7; isplitr
    · ipureintro; rfl
    · iexact H7
  · iexists _; isplitr; rotate_left; · iexact H6
    ipureintro
    rw [View.read_writes_cons_put arg6.view f6 _ _ _ (k0_off8_eq k)]
    rw [← View.readAt_unit _ f7 (k0_off7_inb i k k0_h1) (k0_off7_eq k)]
    rfl

/-- The transposing loop by its invariant. -/
@[instance_reducible] def loop2 (E : Set ℕ) (k0_h1 : k0_cond1 i = 1#1) (z : Vec F S104x10240 .f32) (y6 : Vec F S10240x104 .f32) :
    LoopInvTy_k0_t2 (F := F) Unit ℕ (UR sig nD τ) ℕ Variants.none c none E i arg1 harg1 arg2 harg2 arg3 harg3 arg4 harg4 arg5 harg5 arg6 harg6 arg7 harg7 k0_h1 where
  inv k _ := iprop(owns (c : Thread nD τ) arg7 fullShare z ∗ owns (c : Thread nD τ) arg6 fullShare (trK z y6 k))
  step k acc := by
    iintro HT
    iapply (wp_wand_r Idealize.ShloMosaic.frame (wpE (defs₀ (F := F)) Variants.none (c : Thread nD τ) none) E)
    isplitl [HT]
    · iapply (trip2 c i arg1 harg1 arg2 harg2 arg3 harg3 arg4 harg4 arg5 harg5 arg6 harg6 arg7 harg7 E) $$ HT
    · iintro %acc' HT
      rw [trK_succ z y6 k.val (trips2 ▸ k.isLt)]
      iexact HT

end Cert.KernelIdeal.Hand
-- ==== Proof.KernelIdeal.Body.lean ====
module

public import proofs.«01_k».proof.Proof.KernelIdeal.Block
public import Idealize.ShloMosaic.Lib.Claim

/-! The kernel's body at a point, the pipeline's proof data (the scratch's finished rows tracked from point to point),
the run and the frame. -/

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S128x10240 .bf16) (harg1 : arg1.IsWhole) (arg2 : Memref sig .tc .vmem S128x5120 .bf16) (harg2 : arg2.IsWhole) (arg3 : Memref sig .tc .vmem S128x10240 .fp8e4m3) (harg3 : arg3.IsWhole) (arg4 : Memref sig .tc .vmem S128x80 .f32) (harg4 : arg4.IsWhole) (arg5 : Memref sig .tc .vmem S10240x128 .fp8e4m3) (harg5 : arg5.IsWhole) (arg6 : Memref sig .tc .vmem S10240x104 .f32) (harg6 : arg6.IsWhole) (arg7 : Memref sig .tc .vmem S104x10240 .f32) (harg7 : arg7.IsWhole)

theorem loop1_start (E : Set ℕ) (x : Vec F S128x10240 .bf16) (d : Vec F S128x5120 .bf16) (y3 : Vec F S128x10240 .fp8e4m3) (y5 : Vec F S10240x128 .fp8e4m3) (y7 : Vec F S104x10240 .f32) (init : FVec F S128x80 .f32) :
    Trip c arg1 arg2 arg3 arg5 arg7 x d y3 y5 y7 ⊢ (loop1 c i arg1 harg1 arg2 harg2 arg3 harg3 arg4 harg4 arg5 harg5 arg6 harg6 arg7 harg7 E x d y3 y5 y7 init).inv 0 init := by
  show _ ⊢ iprop(⌜init = rsK x d init 0⌝ ∗ Trip c arg1 arg2 arg3 arg5 arg7 x d (rcK x d y3 0) (ccK x d y5 0) (csK (i 0).val x d y7 0))
  rw [show rcK x d y3 0 = y3 from by funext y; exact if_neg (by omega), show ccK x d y5 0 = y5 from by funext y; exact if_neg (by omega),
        show csK (i 0).val x d y7 0 = y7 from by funext y; exact if_neg (by omega)]
  iintro H
  isplitr
  · ipureintro; funext y; exact (if_neg (by omega)).symm
  · iexact H
theorem loop1_end (E : Set ℕ) (x : Vec F S128x10240 .bf16) (d : Vec F S128x5120 .bf16) (y3 : Vec F S128x10240 .fp8e4m3) (y5 : Vec F S10240x128 .fp8e4m3) (y7 : Vec F S104x10240 .f32) (init acc : FVec F S128x80 .f32) :
    (loop1 c i arg1 harg1 arg2 harg2 arg3 harg3 arg4 harg4 arg5 harg5 arg6 harg6 arg7 harg7 E x d y3 y5 y7 init).inv k0_t1_loop.trips acc
      ⊢ iprop(⌜acc = rsV x d⌝ ∗ Trip c arg1 arg2 arg3 arg5 arg7 x d (rcV x d) (ccV x d) (csAfter (i 0).val x d y7)) := by
  show iprop(⌜acc = rsK x d init k0_t1_loop.trips⌝ ∗ Trip c arg1 arg2 arg3 arg5 arg7 x d (rcK x d y3 k0_t1_loop.trips) (ccK x d y5 k0_t1_loop.trips) (csK (i 0).val x d y7 k0_t1_loop.trips)) ⊢ _
  rw [trips1, rsK_all, rcK_all, ccK_all, csK_all]
theorem loop2_start (E : Set ℕ) (k0_h1 : k0_cond1 i = 1#1) (z : Vec F S104x10240 .f32) (y6 : Vec F S10240x104 .f32) :
    (iprop(owns (c : Thread nD τ) arg7 fullShare z ∗ owns (c : Thread nD τ) arg6 fullShare y6) : sProp 𝕄)
      ⊢ (loop2 c i arg1 harg1 arg2 harg2 arg3 harg3 arg4 harg4 arg5 harg5 arg6 harg6 arg7 harg7 E k0_h1 z y6).inv 0 ⟨⟩ := by
  show _ ⊢ iprop(owns (c : Thread nD τ) arg7 fullShare z ∗ owns (c : Thread nD τ) arg6 fullShare (trK z y6 0))
  rw [show trK z y6 0 = y6 from by funext y; exact if_neg (by omega)]
theorem loop2_end (E : Set ℕ) (k0_h1 : k0_cond1 i = 1#1) (z : Vec F S104x10240 .f32) (y6 : Vec F S10240x104 .f32) (acc : Unit) :
    (loop2 c i arg1 harg1 arg2 harg2 arg3 harg3 arg4 harg4 arg5 harg5 arg6 harg6 arg7 harg7 E k0_h1 z y6).inv k0_t2_loop.trips acc
      ⊢ (iprop(owns (c : Thread nD τ) arg7 fullShare z ∗ owns (c : Thread nD τ) arg6 fullShare (trV z)) : sProp 𝕄) := by
  show iprop(owns (c : Thread nD τ) arg7 fullShare z ∗ owns (c : Thread nD τ) arg6 fullShare (trK z y6 k0_t2_loop.trips)) ⊢ _
  rw [trips2, trK_all]

/-- The body's tail by whether the point is the last. -/
theorem tail (E : Set ℕ) (z : Vec F S104x10240 .f32) (y6 : Vec F S10240x104 .f32) (K : PUnit → sProp 𝕄) :
    iprop(owns (c : Thread nD τ) arg7 fullShare z ∗ owns (c : Thread nD τ) arg6 fullShare y6
      ∗ (iprop(owns (c : Thread nD τ) arg7 fullShare z ∗ owns (c : Thread nD τ) arg6 fullShare (if k0_cond1 i = 1#1 then trV z else y6)) -∗ K ⟨⟩))
    ⊢ wp frame (wpE (defs₀ (F := F)) Variants.none c none) E
      (do
        if k0_h1 : k0_cond1 i = 1#1 then do
          Scf.Loop.for k0_t2_loop (k0_t2_ok i k0_h1) ⟨⟩ (k0_t2_body i arg1 harg1 arg2 harg2 arg3 harg3 arg4 harg4 arg5 harg5 arg6 harg6 arg7 harg7 k0_h1)
          pure ⟨⟩
        else do
          pure ⟨⟩
        pure ⟨⟩) K := by
  iintro ⟨H7, H6, Hk⟩
  by_cases h : k0_cond1 i = 1#1
  · simp only [dif_pos h, if_pos h]
    iapply (exec_loop Idealize.ShloMosaic.frame (wpE (defs₀ (F := F)) Variants.none (c : Thread nD τ) none) E _ _ _ _ _ _
      (loop2 c i arg1 harg1 arg2 harg2 arg3 harg3 arg4 harg4 arg5 harg5 arg6 harg6 arg7 harg7 E h z y6)) $$ [H7 H6]
    · iapply loop2_start
      isplitl [H7]; · iexact H7
      iexact H6
    iintro %acc HL
    ihave HL := (loop2_end c i arg1 harg1 arg2 harg2 arg3 harg3 arg4 harg4 arg5 harg5 arg6 harg6 arg7 harg7 E h z y6 acc) $$ HL
    sl_step
    iapply Hk
    iexact HL
  · simp only [dif_neg h, if_neg h]
    sl_step
    iapply Hk
    isplitl [H7]; · iexact H7
    iexact H6

/-- The store of the row scales, before anything. -/
theorem store4 (E : Set ℕ) (v y4 : Vec F S128x80 .f32) (k : Prog (TpuEff nD τ sig (Elt F) Λ₀ .tc) PUnit) (K : PUnit → sProp 𝕄) :
    iprop(owns (c : Thread nD τ) arg4 fullShare y4 ∗ (owns (c : Thread nD τ) arg4 fullShare v -∗ wp frame (wpE (defs₀ (F := F)) Variants.none c none) E k K))
    ⊢ wp frame (wpE (defs₀ (F := F)) Variants.none c none) E
      (do
        let _ ← Prog.lift (.load arg4 (Rect.unit (s := S128x80) ![0, 0] S128x80.size inb_S128x80_S128x80_0_0).toLoadRect (View.loadsAt_vmem h_S128x80))
        Prog.lift (.store arg4 (Rect.unit (s := S128x80) ![0, 0] S128x80.size inb_S128x80_S128x80_0_0) v Finset.univ (View.stores_vmem_bits_univ h_S128x80 rfl) (.inl rfl))
        k) K := by
  unfold owns
  iintro ⟨⟨%f4, %h4, H4⟩, Hk⟩
  sl_exec
  iapply Hk
  iexists _; isplitr
  swap; · iexact H4
  ipureintro
  exact View.read_writes_full _ _ _ _ _

set_option maxHeartbeats 4000000 in
/-- The body at a point: the block's codes and scales, the scratch with the block's row, and at the last point the
    transposed scratch. -/
theorem sound_kernel (E : Set ℕ) (x : Vec F S128x10240 .bf16) (d : Vec F S128x5120 .bf16) (y6 : Vec F S10240x104 .f32) (y7 : Vec F S104x10240 .f32) (K : PUnit → sProp 𝕄) :
    iprop(owns (c : Thread nD τ) arg1 fullShare x ∗ owns (c : Thread nD τ) arg2 fullShare d ∗ (∃ y, owns (c : Thread nD τ) arg3 fullShare y) ∗ (∃ y, owns (c : Thread nD τ) arg4 fullShare y) ∗ (∃ y, owns (c : Thread nD τ) arg5 fullShare y)
        ∗ owns (c : Thread nD τ) arg6 fullShare y6 ∗ owns (c : Thread nD τ) arg7 fullShare y7
        ∗ (iprop(owns (c : Thread nD τ) arg1 fullShare x ∗ owns (c : Thread nD τ) arg2 fullShare d ∗ owns (c : Thread nD τ) arg3 fullShare (rcV x d) ∗ owns (c : Thread nD τ) arg4 fullShare (rsV x d) ∗ owns (c : Thread nD τ) arg5 fullShare (ccV x d)
            ∗ owns (c : Thread nD τ) arg6 fullShare (if k0_cond1 i = 1#1 then trV (csAfter (i 0).val x d y7) else y6) ∗ owns (c : Thread nD τ) arg7 fullShare (csAfter (i 0).val x d y7)) -∗ K ⟨⟩))
      ⊢ wp frame (wpE (defs₀ (F := F)) Variants.none c none) E (cc0_dswiglu_quant i arg1 harg1 arg2 harg2 arg3 harg3 arg4 harg4 arg5 harg5 arg6 harg6 arg7 harg7) K := by
  simp only [cc0_dswiglu_quant_eq_skeleton]; unfold cc0_dswiglu_quant_skel
  iintro ⟨H1, H2, ⟨%y3, H3⟩, ⟨%y4, H4⟩, ⟨%y5, H5⟩, H6, H7, Hk⟩
  iapply (exec_loop Idealize.ShloMosaic.frame (wpE (defs₀ (F := F)) Variants.none (c : Thread nD τ) none) E _ _ _ _ _ _
    (loop1 c i arg1 harg1 arg2 harg2 arg3 harg3 arg4 harg4 arg5 harg5 arg6 harg6 arg7 harg7 E x d y3 y5 y7 (k0_pay1 (F := F)))) $$ [H1 H2 H3 H5 H7]
  · iapply loop1_start
    isplitl [H1]; · iexact H1
    isplitl [H2]; · iexact H2
    isplitl [H3]; · iexact H3
    isplitl [H5]; · iexact H5
    iexact H7
  iintro %acc HL
  ihave HL := (loop1_end c i arg1 harg1 arg2 harg2 arg3 harg3 arg4 harg4 arg5 harg5 arg6 harg6 arg7 harg7 E x d y3 y5 y7 (k0_pay1 (F := F)) acc) $$ HL
  icases HL with ⟨%hacc, H1, H2, H3, H5, H7⟩
  subst hacc
  iapply (store4 c arg4 E (rsV x d) y4 _ _)
  isplitl [H4]; · iexact H4
  iintro H4
  iapply (tail c i arg1 harg1 arg2 harg2 arg3 harg3 arg4 harg4 arg5 harg5 arg6 harg6 arg7 harg7 E (csAfter (i 0).val x d y7) y6 K)
  isplitl [H7]; · iexact H7
  isplitl [H6]; · iexact H6
  iintro ⟨H7, H6⟩
  iapply Hk
  isplitl [H1]; · iexact H1
  isplitl [H2]; · iexact H2
  isplitl [H3]; · iexact H3
  isplitl [H4]; · iexact H4
  isplitl [H5]; · iexact H5
  isplitl [H6]; · iexact H6
  iexact H7

end

/-! ## The pipeline's proof data -/

variable (m : (ℓ : Loc nD τ sig) → Buf (Elt F) ℓ) (ρ : Dev nD → PrngReg)

/-- The column scales of block `b`. -/
def csRow (c : Dev nD) (b : Fin cfg0.N) (j : Fin 10240) : Elt F .f32 := csV (iblk m c 0 b) (iblk m c 1 b) j

/-- The finished scratch: row `b` the column scales of block `b`. -/
def csFull (c : Dev nD) : Vec F S104x10240 .f32 := fun y => csRow m c (y 0) (y 1)

/-- The invariant before point `t`: the scratch's rows below `t` are finished. -/
def Phi (c : Dev nD) (t : ℕ) : sProp 𝕄 :=
  iprop((∃ z : Vec F S104x10240 .f32, ⌜∀ y : S104x10240.Idx, (y 0).val < t → z y = csFull m c y⌝ ∗ owns (c : Thread nD τ) (Memref.whole cc0_scratch0) fullShare z) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rcV (iblk m c 0 t) (iblk m c 1 t)
    | ⟨3, _⟩ => rsV (iblk m c 0 t) (iblk m c 1 t)
    | ⟨4, _⟩ => ccV (iblk m c 0 t) (iblk m c 1 t)
    | ⟨5, _⟩ => trV (csFull m c)
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = rcV (iblk m c 0 t) (iblk m c 1 t) := by dsimp only [dats]
theorem after0_3 (c : Dev nD) (t : Fin cfg0.N) : (dats m 0 c).after 3 t = rsV (iblk m c 0 t) (iblk m c 1 t) := by dsimp only [dats]
theorem after0_4 (c : Dev nD) (t : Fin cfg0.N) : (dats m 0 c).after 4 t = ccV (iblk m c 0 t) (iblk m c 1 t) := by dsimp only [dats]
theorem after0_5 (c : Dev nD) (t : Fin cfg0.N) : (dats m 0 c).after 5 t = trV (csFull m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

theorem coords_val : ∀ t : Fin cfg0.N, (grid0.coords t 0).val = t.val := by decide +kernel
theorem cond_iff : ∀ t : Fin cfg0.N, k0_cond1 (grid0.coords t) = 1#1 ↔ t.val = 103 := by decide +kernel

/-- The last point's finished scratch: the invariant's rows and the point's own. -/
theorem csAfter_step (c : Dev nD) (t : Fin cfg0.N) (z : Vec F S104x10240 .f32) (hz : ∀ y : S104x10240.Idx, (y 0).val < t.val → z y = csFull m c y) (y : S104x10240.Idx) (hy : (y 0).val < t.val + 1) :
    csAfter (grid0.coords t 0).val (iblk m c 0 t) (iblk m c 1 t) z y = csFull m c y := by
  unfold csAfter
  rw [coords_val t]
  by_cases h : (y 0).val = t.val
  · rw [if_pos h]
    have e : t = y 0 := Fin.ext h.symm
    subst e; rfl
  · rw [if_neg h]
    exact hz y (by omega)

/-- Window 5's buffer after the body: the transposed scratch at the last point, what it held before at any other. -/
theorem leaves5 (c : Dev nD) (t : Fin cfg0.N) (z : Vec F S104x10240 .f32) (hz : ∀ y : S104x10240.Idx, (y 0).val < t.val + 1 → z y = csFull m c y) (d) :
    owns (c : Thread nD τ) (st0_5 t) fullShare (if k0_cond1 (grid0.coords t) = 1#1 then trV z else (dats m 0 c).before 5 t d) ⊢ (dats m 0 c).leavesExact 5 t := by
  by_cases h : k0_cond1 (grid0.coords t) = 1#1
  · have ez : z = csFull m c := funext fun y => hz y (by have : (y 0).val < 104 := (y 0).isLt; have := (cond_iff t).1 h; omega)
    rw [if_pos h, ez, ← after0_5 m c t]
    have hi : cfg0.idle 5 (cfg0.grid.coords t) = false := by
      show (!(k0_cond1 (grid0.coords t) == 1#1)) = false
      rw [h]; rfl
    unfold Dat.leavesExact
    rw [hi]
  · rw [if_neg h]
    have hi : cfg0.idle 5 (cfg0.grid.coords t) = true := by
      show (!(k0_cond1 (grid0.coords t) == 1#1)) = true
      simpa using h
    have hf : (cfg0.win 5).flush t = false := by
      rw [Bool.eq_false_iff]
      intro hh
      have h1 := (flush0_5 t).1 hh
      have : t.val < 104 := t.isLt
      exact h ((cond_iff t).2 (by omega))
    rw [Dat.leavesExact_idle _ 5 t hi hf]
    iintro H
    iexists d
    iexact H

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.castSucc = Phi m c t.val from rfl, show (dats m 0 c).Φ t.succ = Phi m c (t.val + 1) from rfl,
    show (dats m 0 c).owesAt () t.succ = (dats m 0 c).owesAt () t.castSucc from rfl,
    after0_0, after0_1, after0_2, after0_3, after0_4]
  unfold Phi
  iintro ⟨⟨⟨%z, %hz, HS⟩, HP⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ Set.univ (iblk m c 0 t) (iblk m c 1 t) ((dats m 0 c).before 5 t d5) z _)
  isplitl [H0]; · iexact H0
  isplitl [H1]; · iexact H1
  isplitl [H2]; · iexists _; iexact H2
  isplitl [H3]; · iexists _; iexact H3
  isplitl [H4]; · iexists _; iexact H4
  isplitl [H5]; · iexact H5
  isplitl [HS]; · iexact HS
  iintro ⟨H0, H1, H2, H3, H4, H5, HS⟩
  isplitl [HS HP]
  · isplitl [HS]
    · iexists _; isplitr; rotate_left
      · iexact HS
      · ipureintro; exact csAfter_step m c t z hz
    · iexact HP
  isplitl [Ho]; · iexact Ho
  isplitl [H0]; · iexact H0
  isplitl [H1]; · iexact H1
  isplitl [H2]; · iexact H2
  isplitl [H3]; · iexact H3
  isplitl [H4]; · iexact H4
  iapply (leaves5 m c t _ (csAfter_step m c t z hz) d5) $$ H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats (F := F) m 0 c).Φ 0 := by
  rw [show (dats m 0 c).Φ 0 = Phi m c 0 from rfl]
  unfold Pipeline.ΦA Phi
  rw [scopedRest0_eq]
  iintro ⟨⟨%f, H⟩, HP⟩
  isplitl [H]
  · iexists f; isplitr
    · ipureintro; intro y hy; omega
    · rw [owns_whole]; iexact H
  · iexact HP

theorem hout (c : Dev nD) : (dats (F := F) m 0 c).Φ (Fin.last cfg0.N) ⊢ Pipeline.ΦA spec0 c := by
  rw [show (dats m 0 c).Φ (Fin.last cfg0.N) = Phi m c cfg0.N from rfl]
  unfold Pipeline.ΦA Phi
  rw [scopedRest0_eq]
  iintro ⟨⟨%z, -, H⟩, HP⟩
  isplitl [H]
  · iexists z; rw [← owns_whole]; iexact H
  · iexact HP

set_option backward.isDefEq.respectTransparency.types false in
set_option maxHeartbeats 800000 in
/-- The launch: every array of the pipeline at what the proof data computes, and every counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Hand
-- ==== Proof.Scale.lean ====
module

public import Idealize.ShloMosaic.PureOps.Ideal.Laws
public import Idealize.ShloMosaic.Lib.IdealHost

/-! The power-of-two scale of a group, two ways, over the extended reals: by a search for the exponent field of a word,
and by the floor of a base-two logarithm. The two agree for every magnitude below 2^126. -/

@[expose] public section

noncomputable section

namespace Cert.Scale

open Idealize.ShloMosaic

/-! ## The search -/

/-- One step of the search: the bit `b` is set in `f` where `q` is at least the float of exponent field `f` with it. -/
def stepS (q : EReal) (b f : BitVec 32) : BitVec 32 :=
  Scalar.select (Ideal.cmp .oge q (Ideal.ofBits .f32 (IntOp.shli .vector (IntOp.ori f b) 23#32))) (IntOp.ori f b) f
/-- The exponent field found. -/
def fieldS (q : EReal) : BitVec 32 :=
  stepS q 1#32 (stepS q 2#32 (stepS q 4#32 (stepS q 8#32 (stepS q 16#32 (stepS q 32#32 (stepS q 64#32 (stepS q 128#32 0#32)))))))
/-- The exponent of the scale. -/
def expoS (q : EReal) : BitVec 32 :=
  Scalar.select (IntOp.ori (IntOp.cmpi .eq (fieldS q) 0#32) (IntOp.cmpi .eq (fieldS q) 255#32)) 0#32 (IntOp.subi (fieldS q) 126#32)
/-- The scale. -/
def scaleS (q : EReal) : EReal := Ideal.ofBits .f32 (IntOp.shli .vector (IntOp.addi (expoS q) 127#32) 23#32)
/-- Its reciprocal. -/
def invS (q : EReal) : EReal := Ideal.ofBits .f32 (IntOp.shli .vector (IntOp.subi 127#32 (expoS q)) 23#32)

/-- The exponent of the scale by the logarithm: zero below the least normal number. -/
def refE (q : EReal) : EReal :=
  Scalar.select (Ideal.cmp .olt q (Ideal.ofBits .f32 0x00800000#32)) (Ideal.ofBits .f32 0x00000000#32)
    (Ideal.liftRound Int.floor (Ideal.div (Ideal.log q) (Ideal.log (Ideal.ofBits .f32 0x40000000#32))) + Ideal.ofBits .f32 0x3F800000#32)

/-! ## The floats of a bare exponent field -/

/-- The word of exponent field `n`. -/
abbrev wordN (n : ℕ) : BitVec 32 := IntOp.shli .vector (BitVec.ofNat 32 n) 23#32

theorem word_fields : ∀ n : Fin 256, (wordN n.val).extractLsb' 31 1 = 0#1 ∧ ((wordN n.val).extractLsb' 23 8).toNat = n.val
    ∧ ((wordN n.val).extractLsb' 0 23).toNat = 0 := by decide +kernel

theorem ofBits_top : Ideal.ofBits .f32 (wordN 255) = ⊤ := by
  obtain ⟨h1, h2, h3⟩ := word_fields 255
  have h1 : BitVec.extractLsb' (8 + 23) 1 (wordN 255) = 0#1 := h1
  have h2 : (BitVec.extractLsb' 23 8 (wordN 255)).toNat = 255 := h2
  have h3 : (BitVec.extractLsb' 0 23 (wordN 255)).toNat = 0 := h3
  show Ideal.ieee 8 23 (wordN 255) = ⊤
  unfold Ideal.ieee
  simp only [h1, h2, h3]
  simp

theorem ofBits_norm (n : ℕ) (h1 : 1 ≤ n) (h2 : n ≤ 254) :
    Ideal.ofBits .f32 (wordN n) = (((2 : ℝ) ^ ((n : ℤ) - 127) : ℝ) : EReal) := by
  obtain ⟨e1, e2, e3⟩ := word_fields ⟨n, by omega⟩
  have e1 : BitVec.extractLsb' (8 + 23) 1 (wordN n) = 0#1 := e1
  have e2 : (BitVec.extractLsb' 23 8 (wordN n)).toNat = n := e2
  have e3 : (BitVec.extractLsb' 0 23 (wordN n)).toNat = 0 := e3
  show Ideal.ieee 8 23 (wordN n) = _
  unfold Ideal.ieee
  simp only [e1, e2, e3]
  rw [if_neg (by omega), if_neg (by omega)]
  have hz : ((n : ℤ) - 127) = (23 : ℕ) + ((n : ℤ) - (2 ^ (8 - 1) - 1) - (23 : ℕ)) := by omega
  rw [EReal.coe_eq_coe_iff, hz, zpow_add₀ (two_ne_zero : (2 : ℝ) ≠ 0), zpow_natCast]
  have hb : ((0#1 : BitVec 1) == 1#1) = false := rfl
  rw [hb]
  refine congrArg (· * (2 : ℝ) ^ ((n : ℤ) - (2 ^ (8 - 1) - 1) - (23 : ℕ))) ?_
  rw [if_neg Bool.false_ne_true, one_mul, Nat.add_zero, Nat.cast_pow, Nat.cast_ofNat]

/-- The word search against a threshold is the search in the naturals. -/
def stepN (n b f : BitVec 32) : BitVec 32 := if (f ||| b).toNat ≤ n.toNat then f ||| b else f
def fieldN (n : BitVec 32) : BitVec 32 :=
  stepN n 1#32 (stepN n 2#32 (stepN n 4#32 (stepN n 8#32 (stepN n 16#32 (stepN n 32#32 (stepN n 64#32 (stepN n 128#32 0#32)))))))

theorem fieldN_eq : ∀ n : Fin 256, fieldN (BitVec.ofNat 32 n.val) = BitVec.ofNat 32 n.val := by decide +kernel

theorem stepN_lt (n b f : BitVec 32) (hb : b.toNat < 256) (hf : f.toNat < 256) : (stepN n b f).toNat < 256 := by
  unfold stepN
  split
  · rw [BitVec.toNat_or]; exact Nat.or_lt_two_pow (n := 8) hf hb
  · exact hf

section
variable (q : EReal) (n : ℕ) (hn : n < 256)
  (H : ∀ k : ℕ, 1 ≤ k → k < 256 → (Ideal.ofBits .f32 (wordN k) ≤ q ↔ k ≤ n))
include hn H

theorem stepS_eq (b f : BitVec 32) (hb : b.toNat < 256) (hb0 : 1 ≤ b.toNat) (hf : f.toNat < 256) :
    stepS q b f = stepN (BitVec.ofNat 32 n) b f := by
  have hlt : (f ||| b).toNat < 256 := by rw [BitVec.toNat_or]; exact Nat.or_lt_two_pow (n := 8) hf hb
  have hge : 1 ≤ (f ||| b).toNat := by rw [BitVec.toNat_or]; exact le_trans hb0 Nat.right_le_or
  have h := H (f ||| b).toNat hge hlt
  have hw : wordN (f ||| b).toNat = IntOp.shli .vector (IntOp.ori f b) 23#32 := by
    unfold wordN; rw [BitVec.ofNat_toNat, BitVec.setWidth_eq]; rfl
  rw [hw] at h
  have hn' : (BitVec.ofNat 32 n).toNat = n := by rw [BitVec.toNat_ofNat]; omega
  unfold stepS stepN Scalar.select Ideal.cmp
  rw [hn']
  by_cases hk : (f ||| b).toNat ≤ n
  · rw [if_pos hk]; simp only [h.2 hk]; rfl
  · rw [if_neg hk]; simp only [show ¬ (Ideal.ofBits .f32 (IntOp.shli .vector (IntOp.ori f b) 23#32) ≤ q) from fun h' => hk (h.1 h')]; rfl

theorem fieldS_eq : fieldS q = BitVec.ofNat 32 n := by
  have z : (0#32).toNat < 256 := by decide
  have l := fun b f hb hf => stepN_lt (BitVec.ofNat 32 n) b f hb hf
  have d : (128#32).toNat < 256 ∧ (64#32).toNat < 256 ∧ (32#32).toNat < 256 ∧ (16#32).toNat < 256 ∧ (8#32).toNat < 256 ∧ (4#32).toNat < 256 ∧ (2#32).toNat < 256 := by decide
  obtain ⟨d1, d2, d3, d4, d5, d6, d7⟩ := d
  have s1 := l _ _ d1 z
  have s2 := l _ _ d2 s1
  have s3 := l _ _ d3 s2
  have s4 := l _ _ d4 s3
  have s5 := l _ _ d5 s4
  have s6 := l _ _ d6 s5
  have s7 := l _ _ d7 s6
  rw [← fieldN_eq ⟨n, hn⟩]
  unfold fieldS fieldN
  rw [stepS_eq q n hn H _ _ d1 (by decide) z, stepS_eq q n hn H _ _ d2 (by decide) s1, stepS_eq q n hn H _ _ d3 (by decide) s2,
    stepS_eq q n hn H _ _ d4 (by decide) s3, stepS_eq q n hn H _ _ d5 (by decide) s4, stepS_eq q n hn H _ _ d6 (by decide) s5,
    stepS_eq q n hn H _ _ d7 (by decide) s6, stepS_eq q n hn H _ _ (by decide) (by decide) s7]
end

/-- From a field found the words of the scale and of its reciprocal. -/
theorem words_of_field : ∀ n : Fin 253, ∀ f : BitVec 32, f = BitVec.ofNat 32 n.val →
    let e := Scalar.select (IntOp.ori (IntOp.cmpi .eq f 0#32) (IntOp.cmpi .eq f 255#32)) 0#32 (IntOp.subi f 126#32)
    IntOp.shli .vector (IntOp.addi e 127#32) 23#32 = wordN (if n.val = 0 then 127 else n.val + 1)
      ∧ IntOp.shli .vector (IntOp.subi 127#32 e) 23#32 = wordN (if n.val = 0 then 127 else 253 - n.val) := by
  intro n f hf; subst hf; revert n; decide +kernel

theorem two_eq : Ideal.ofBits .f32 0x40000000#32 = ((2 : ℝ) : EReal) := by
  have := ofBits_norm 128 (by norm_num) (by norm_num)
  rw [show wordN 128 = 0x40000000#32 by decide] at this
  rw [this]; norm_num

theorem least_eq : Ideal.ofBits .f32 0x00800000#32 = (((2 : ℝ) ^ (-126 : ℤ) : ℝ) : EReal) := by
  have := ofBits_norm 1 (by norm_num) (by norm_num)
  rw [show wordN 1 = 0x00800000#32 by decide] at this
  rw [this]; norm_num

theorem exp2_int (e : ℤ) : Ideal.exp2 (((e : ℝ) : ℝ) : EReal) = (((2 : ℝ) ^ e : ℝ) : EReal) := by
  rw [Ideal.exp2_coe]; exact congrArg _ (Real.rpow_intCast 2 e)

/-- The two scales are one. -/
theorem scale_eq (q : EReal) (h0 : 0 ≤ q) (h1 : q < (((2 : ℝ) ^ (126 : ℤ) : ℝ) : EReal)) :
    scaleS q = Ideal.exp2 (refE q) ∧ invS q = Ideal.exp2 (Ideal.ofBits .f32 0x00000000#32 - refE q) := by
  induction q using EReal.rec with
  | bot => exact absurd h0 (by simp)
  | top => exact absurd h1 (by simp)
  | coe r =>
    have hr0 : 0 ≤ r := by exact_mod_cast h0
    have hr1 : r < (2 : ℝ) ^ (126 : ℤ) := by exact_mod_cast h1
    have two : (1 : ℕ) < 2 := by norm_num
    by_cases hs : r < (2 : ℝ) ^ (-126 : ℤ)
    · have hf : fieldS (r : EReal) = BitVec.ofNat 32 0 := by
        refine fieldS_eq _ 0 (by norm_num) fun k hk1 hk2 => ⟨fun h => ?_, fun h => by omega⟩
        exfalso
        by_cases hk : k = 255
        · subst hk; rw [ofBits_top] at h; exact absurd h (by simp)
        · rw [ofBits_norm k hk1 (by omega)] at h
          have h : (2 : ℝ) ^ ((k : ℤ) - 127) ≤ r := by exact_mod_cast h
          have : (2 : ℝ) ^ (-126 : ℤ) ≤ (2 : ℝ) ^ ((k : ℤ) - 127) := zpow_le_zpow_right₀ (by norm_num) (by omega)
          linarith
      have hE : refE (r : EReal) = (((0 : ℤ) : ℝ) : EReal) := by
        unfold refE
        rw [least_eq]
        have : ((r : ℝ) : EReal) < (((2 : ℝ) ^ (-126 : ℤ) : ℝ) : EReal) := by exact_mod_cast hs
        simp only [Ideal.cmp, this, Scalar.select]
        rw [Ideal.ofBits_zero_f32]; simp
      obtain ⟨w1, w2⟩ := words_of_field ⟨0, by norm_num⟩ _ hf
      have one : Ideal.ofBits .f32 (wordN 127) = 1 := by
        rw [ofBits_norm 127 (by norm_num) (by norm_num)]; norm_num
      constructor
      · unfold scaleS expoS; rw [w1, hE, exp2_int]
        simpa using one
      · unfold invS expoS; rw [w2, hE, Ideal.ofBits_zero_f32]
        rw [show (0 : EReal) - (((0 : ℤ) : ℝ) : EReal) = (((0 : ℤ) : ℝ) : EReal) by simp, exp2_int]
        simpa using one
    · have hs : (2 : ℝ) ^ (-126 : ℤ) ≤ r := not_lt.1 hs
      have hr : 0 < r := lt_of_lt_of_le (by positivity) hs
      have l2 : 0 < Real.log 2 := Real.log_pos (by norm_num)
      obtain ⟨e, he⟩ : ∃ e, e = ⌊Real.log r * (1 / Real.log 2)⌋ := ⟨_, rfl⟩
      have le_iff : ∀ x : ℤ, (2 : ℝ) ^ x ≤ r ↔ x ≤ e := fun x => by
        rw [he, Int.le_floor, ← Real.log_le_log_iff (by positivity) hr, Real.log_zpow, mul_one_div, le_div_iff₀ l2]
      have elo : -126 ≤ e := (le_iff _).1 hs
      have ehi : e < 126 := by
        by_contra h
        exact absurd ((le_iff 126).2 (by omega)) (not_le.2 hr1)
      obtain ⟨n, hn⟩ : ∃ n : ℕ, (n : ℤ) = e + 127 := ⟨(e + 127).toNat, by omega⟩
      have hf : fieldS (r : EReal) = BitVec.ofNat 32 n := by
        refine fieldS_eq _ n (by omega) fun k hk1 hk2 => ?_
        by_cases hk : k = 255
        · subst hk; rw [ofBits_top]
          exact ⟨fun h => absurd h (by simp), fun h => by omega⟩
        · rw [ofBits_norm k hk1 (by omega)]
          rw [EReal.coe_le_coe_iff, le_iff]; omega
      have hE : refE (r : EReal) = (((e + 1 : ℤ) : ℝ) : EReal) := by
        unfold refE
        rw [least_eq, two_eq, Ideal.ofBits_one_f32]
        have : ¬ ((r : ℝ) : EReal) < (((2 : ℝ) ^ (-126 : ℤ) : ℝ) : EReal) := by
          rw [EReal.coe_lt_coe_iff]; exact not_lt.2 hs
        simp only [Ideal.cmp, this, Scalar.select]
        rw [Ideal.log_coe, Ideal.log_coe, if_neg (not_le.2 hr), if_neg (show ¬ ((2 : ℝ) ≤ 0) by norm_num), Ideal.div_coe l2.ne',
          ← EReal.coe_mul, Ideal.liftRound_coe]
        rw [← he]
        simp
      obtain ⟨w1, w2⟩ := words_of_field ⟨n, by omega⟩ _ hf
      have n0 : n ≠ 0 := by omega
      simp only [n0, if_false] at w1 w2
      constructor
      · unfold scaleS expoS
        rw [w1, hE, exp2_int, ofBits_norm _ (by omega) (by omega)]
        congr 2; push_cast; omega
      · unfold invS expoS
        rw [w2, hE, Ideal.ofBits_zero_f32]
        rw [show (0 : EReal) - (((e + 1 : ℤ) : ℝ) : EReal) = (((-(e + 1) : ℤ) : ℝ) : EReal) by
          rw [zero_sub, ← EReal.coe_neg]; push_cast; rfl, exp2_int, ofBits_norm _ (by omega) (by omega)]
        congr 2; omega

end Cert.Scale

end
-- ==== Proof.Grad.lean ====
module

public import proofs.«01_k».proof.Proof.Scale

/-! The gradient of the gated activation at one element, as the kernel associates it and as the mathematics states it,
over the extended reals: equal on finite inputs, and bounded where the inputs are. -/

@[expose] public section

noncomputable section

namespace Cert.Scale

open Idealize.ShloMosaic

/-- The derivative by the gate, as the mathematics states it. -/
def refDg (g u d : EReal) : EReal :=
  d * u * Ideal.logistic g * (Ideal.ofBits .f32 0x3F800000#32 + g * (Ideal.ofBits .f32 0x3F800000#32 - Ideal.logistic g))
/-- The derivative by the other factor. -/
def refDu (g d : EReal) : EReal := d * g * Ideal.logistic g

/-- The logistic function as the kernel spells it. -/
def kSig (g : EReal) : EReal := Ideal.div (Ideal.ofBits .f32 0x3F800000#32) (Ideal.ofBits .f32 0x3F800000#32 + Ideal.exp (Ideal.ofBits .f32 0x00000000#32 - g))
/-- The derivative by the other factor, as the kernel associates it. -/
def kDu (g d : EReal) : EReal := d * kSig g * g
/-- The derivative by the gate, as the kernel associates it. -/
def kDg (g u d : EReal) : EReal := u * (d * kSig g + d * kSig g * g * (Ideal.ofBits .f32 0x3F800000#32 - kSig g))

/-- A finite value of at most `B`. -/
def Small (B : ℝ) (x : EReal) : Prop := ∃ r : ℝ, x = (r : EReal) ∧ |r| ≤ B

theorem kSig_coe (r : ℝ) : kSig (r : EReal) = (((1 + Real.exp (-r))⁻¹ : ℝ) : EReal) := by
  have h : (1 + Real.exp (-r)) ≠ 0 := by positivity
  unfold kSig
  rw [Ideal.ofBits_one_f32, Ideal.ofBits_zero_f32, zero_sub, ← EReal.coe_neg, Ideal.exp_coe, ← EReal.coe_one, ← EReal.coe_add,
    Ideal.div_coe h, ← EReal.coe_mul]
  congr 1; rw [one_mul, one_div]

theorem du_eq (g d : ℝ) : kDu g d = refDu g d := by
  unfold kDu refDu
  rw [kSig_coe, Ideal.logistic_coe, ← EReal.coe_mul, ← EReal.coe_mul, ← EReal.coe_mul, ← EReal.coe_mul]
  congr 1; ring

theorem dg_eq (g u d : ℝ) : kDg g u d = refDg g u d := by
  unfold kDg refDg
  rw [kSig_coe, Ideal.logistic_coe, Ideal.ofBits_one_f32, ← EReal.coe_one]
  simp only [← EReal.coe_mul, ← EReal.coe_add, ← EReal.coe_sub]
  congr 1; ring

/-- The logistic function lies between zero and one, and its slope times its argument within one. -/
theorem sig_bounds (g : ℝ) : 0 ≤ (1 + Real.exp (-g))⁻¹ ∧ (1 + Real.exp (-g))⁻¹ ≤ 1
    ∧ |g * ((1 + Real.exp (-g))⁻¹ * (1 - (1 + Real.exp (-g))⁻¹))| ≤ 1 := by
  have hp : 0 < Real.exp (-g) := Real.exp_pos _
  have hq : 0 < Real.exp g := Real.exp_pos _
  have hpq : Real.exp (-g) * Real.exp g = 1 := by rw [← Real.exp_add]; simp
  have h1 : g + 1 ≤ Real.exp g := Real.add_one_le_exp g
  have h2 : -g + 1 ≤ Real.exp (-g) := Real.add_one_le_exp (-g)
  generalize Real.exp (-g) = p at *
  generalize Real.exp g = e at *
  have hs : (1 + p) ≠ 0 := by positivity
  refine ⟨by positivity, inv_le_one_of_one_le₀ (by linarith), ?_⟩
  have e1 : g * ((1 + p)⁻¹ * (1 - (1 + p)⁻¹)) = g * p / (1 + p) ^ 2 := by field_simp; ring
  rw [e1, abs_div, abs_of_pos (by positivity : 0 < (1 + p) ^ 2), div_le_one (by positivity), abs_le]
  constructor
  · nlinarith [mul_nonneg hp.le (by linarith : 0 ≤ g + p), sq_nonneg p]
  · nlinarith [mul_nonneg hp.le (by linarith : 0 ≤ e - g), sq_nonneg p]

theorem du_small {g d : EReal} (hg : Small (2 ^ 64) g) (hd : Small (2 ^ 64) d) : Small (2 ^ 129) (refDu g d) := by
  obtain ⟨g, rfl, hg⟩ := hg
  obtain ⟨d, rfl, hd⟩ := hd
  obtain ⟨s0, s1, _⟩ := sig_bounds g
  refine ⟨d * g * (1 + Real.exp (-g))⁻¹, by unfold refDu; rw [Ideal.logistic_coe]; simp only [← EReal.coe_mul], ?_⟩
  generalize (1 + Real.exp (-g))⁻¹ = s at *
  rw [abs_mul, abs_mul, abs_of_nonneg s0]
  have h1 : |d| * |g| ≤ 2 ^ 64 * 2 ^ 64 := mul_le_mul hd hg (abs_nonneg _) (by positivity)
  have h2 : |d| * |g| * s ≤ (2 ^ 64 * 2 ^ 64) * 1 := mul_le_mul h1 s1 s0 (by positivity)
  refine h2.trans (by norm_num)

theorem dg_small {g u d : EReal} (hg : Small (2 ^ 64) g) (hu : Small (2 ^ 64) u) (hd : Small (2 ^ 64) d) :
    Small (2 ^ 129) (refDg g u d) := by
  obtain ⟨g, rfl, hg⟩ := hg
  obtain ⟨u, rfl, hu⟩ := hu
  obtain ⟨d, rfl, hd⟩ := hd
  obtain ⟨s0, s1, s2⟩ := sig_bounds g
  refine ⟨d * u * (1 + Real.exp (-g))⁻¹ * (1 + g * (1 - (1 + Real.exp (-g))⁻¹)), by
    unfold refDg; rw [Ideal.logistic_coe, Ideal.ofBits_one_f32, ← EReal.coe_one]
    simp only [← EReal.coe_mul, ← EReal.coe_add, ← EReal.coe_sub], ?_⟩
  generalize (1 + Real.exp (-g))⁻¹ = s at *
  have e : d * u * s * (1 + g * (1 - s)) = d * u * (s + g * (s * (1 - s))) := by ring
  rw [e, abs_mul, abs_mul]
  have h1 : |d| * |u| ≤ 2 ^ 64 * 2 ^ 64 := mul_le_mul hd hu (abs_nonneg _) (by positivity)
  have h3 : |s + g * (s * (1 - s))| ≤ 2 := (abs_add_le _ _).trans (by rw [abs_of_nonneg s0]; linarith)
  have h2 : |d| * |u| * |s + g * (s * (1 - s))| ≤ (2 ^ 64 * 2 ^ 64) * 2 := mul_le_mul h1 h3 (abs_nonneg _) (by positivity)
  refine h2.trans (by norm_num)

/-! ## The magnitude of a group -/

/-- The greatest magnitude of a group, over the codes' range. -/
def qOf (f : Fin 128 → EReal) : EReal :=
  (Finset.univ : Finset (Fin 128)).fold max (Ideal.ofBits .f32 0xFF800000#32) (fun l => max (f l) (-f l)) * Ideal.ofBits .f32 0x3B124925#32

theorem neg_inf_eq : Ideal.ofBits .f32 0xFF800000#32 = ⊥ := by
  show Ideal.ieee 8 23 0xFF800000#32 = ⊥
  unfold Ideal.ieee
  have h1 : BitVec.extractLsb' (8 + 23) 1 0xFF800000#32 = 1#1 := by decide
  have h2 : (BitVec.extractLsb' 23 8 0xFF800000#32).toNat = 255 := by decide
  have h3 : (BitVec.extractLsb' 0 23 0xFF800000#32).toNat = 0 := by decide
  simp only [h1, h2, h3]
  simp

theorem part_eq : ∃ c : ℝ, Ideal.ofBits .f32 0x3B124925#32 = (c : EReal) ∧ 0 ≤ c ∧ c ≤ 1 / 256 := by
  have h1 : BitVec.extractLsb' (8 + 23) 1 0x3B124925#32 = 0#1 := by decide
  have h2 : (BitVec.extractLsb' 23 8 0x3B124925#32).toNat = 118 := by decide
  have h3 : (BitVec.extractLsb' 0 23 0x3B124925#32).toNat = 1198373 := by decide
  have hb : ((0#1 : BitVec 1) == 1#1) = false := rfl
  have hz : (((118 : ℕ) : ℤ) - (2 ^ (8 - 1) - 1) - (23 : ℕ)) = -((32 : ℕ) : ℤ) := by norm_num
  refine ⟨((2 ^ 23 + 1198373 : ℕ) : ℝ) * ((2 : ℝ) ^ 32)⁻¹, ?_, by positivity, by norm_num⟩
  show Ideal.ieee 8 23 0x3B124925#32 = _
  unfold Ideal.ieee
  simp only [h1, h2, h3]
  rw [if_neg (by omega), if_neg (by omega), hb, if_neg Bool.false_ne_true, one_mul, hz, zpow_neg, zpow_natCast]

/-- Where every element of a group is bounded the scale's magnitude is in range. -/
theorem qOf_range (f : Fin 128 → EReal) (h : ∀ l, Small (2 ^ 129) (f l)) :
    0 ≤ qOf f ∧ qOf f < (((2 : ℝ) ^ (126 : ℤ) : ℝ) : EReal) := by
  obtain ⟨c, hc, c0, c1⟩ := part_eq
  have hm : ∀ l, ∃ r : ℝ, max (f l) (-f l) = (r : EReal) ∧ 0 ≤ r ∧ r ≤ 2 ^ 129 := fun l => by
    obtain ⟨r, hr, hb⟩ := h l
    exact ⟨|r|, by rw [hr, ← EReal.coe_neg, abs_eq_max_neg]; exact (EReal.coe_strictMono.monotone.map_max).symm, abs_nonneg _, hb⟩
  unfold qOf
  rw [hc, neg_inf_eq]
  have lo : (0 : EReal) ≤ (Finset.univ : Finset (Fin 128)).fold max ⊥ (fun l => max (f l) (-f l)) :=
    (Finset.le_fold_max (0 : EReal)).2 (.inr ⟨0, Finset.mem_univ _, by
      obtain ⟨r, hr, r0, _⟩ := hm 0
      show (0 : EReal) ≤ max (f 0) (-f 0)
      rw [hr]; exact_mod_cast r0⟩)
  have hi : (Finset.univ : Finset (Fin 128)).fold max ⊥ (fun l => max (f l) (-f l)) ≤ ((2 ^ 129 : ℝ) : EReal) :=
    (Finset.fold_max_le _).2 ⟨bot_le, fun l _ => by
      obtain ⟨r, hr, _, r1⟩ := hm l
      show max (f l) (-f l) ≤ _
      rw [hr]; exact EReal.coe_le_coe_iff.2 r1⟩
  generalize (Finset.univ : Finset (Fin 128)).fold max ⊥ (fun l => max (f l) (-f l)) = m at *
  induction m using EReal.rec with
  | bot => exact absurd lo (by simp)
  | top => exact absurd (top_le_iff.1 hi) (EReal.coe_ne_top _)
  | coe m =>
    have lo : 0 ≤ m := by exact_mod_cast lo
    have hi : m ≤ 2 ^ 129 := EReal.coe_le_coe_iff.1 hi
    rw [← EReal.coe_mul]
    constructor
    · exact_mod_cast mul_nonneg lo c0
    · rw [EReal.coe_lt_coe_iff]
      have : m * c ≤ 2 ^ 129 * (1 / 256) := mul_le_mul hi c1 c0 (by positivity)
      refine lt_of_le_of_lt this ?_
      rw [show (126 : ℤ) = ((126 : ℕ) : ℤ) by rfl, zpow_natCast]
      norm_num

/-- The code of a value at a scale. -/
def codeOf (v inv : EReal) : EReal :=
  min (Ideal.ofBits .f32 0x43E00000#32) (max (Ideal.ofBits .f32 0xC3E00000#32) (v * inv))

end Cert.Scale

end
-- ==== Proof.Spec.lean ====
module

public import proofs.«01_k».proof.Proof.Grad
public import Idealize.ShloMosaic.Lib.ValueLayout

/-! What both programs compute, at each index of the four results, as functions of the two arguments as matrices. -/

@[expose] public section

noncomputable section

namespace Cert.Spec

open Idealize.ShloMosaic Idealize.ShloMosaic.ValueIdx Cert.Scale

abbrev MX : Type := (⟨2, ![13312, 10240]⟩ : Shape).Idx → EReal
abbrev MY : Type := (⟨2, ![13312, 5120]⟩ : Shape).Idx → EReal

/-- The gradient: its left half by the gate, its right half by the other factor. -/
def D (X : MX) (Y : MY) (r : Fin 13312) (c : Fin 10240) : EReal :=
  if h : c.val < 5120 then refDg (X (ix2 r c)) (X (ix2 r ⟨c.val + 5120, by omega⟩)) (Y (ix2 r ⟨c.val, h⟩))
  else refDu (X (ix2 r ⟨c.val - 5120, by omega⟩)) (Y (ix2 r ⟨c.val - 5120, by omega⟩))

/-- The magnitude of the group of 128 columns `g` in row `r`. -/
def rQ (X : MX) (Y : MY) (r : Fin 13312) (g : Fin 80) : EReal := qOf fun l => D X Y r ⟨g.val * 128 + l.val, by omega⟩
/-- The magnitude of the group of 128 rows `t` in column `c`. -/
def cQ (X : MX) (Y : MY) (t : Fin 104) (c : Fin 10240) : EReal := qOf fun l => D X Y ⟨t.val * 128 + l.val, by omega⟩ c

/-- The scale of a magnitude and its reciprocal. -/
def sc (q : EReal) : EReal := Ideal.exp2 (refE q)
def isc (q : EReal) : EReal := Ideal.exp2 (Ideal.ofBits .f32 0x00000000#32 - refE q)

/-- The codes scaled by rows, their scales, the transposed codes scaled by columns, their scales transposed. -/
def R0 (X : MX) (Y : MY) (r : Fin 13312) (c : Fin 10240) : EReal := codeOf (D X Y r c) (isc (rQ X Y r ⟨c.val / 128, by omega⟩))
def R1 (X : MX) (Y : MY) (r : Fin 13312) (g : Fin 80) : EReal := sc (rQ X Y r g)
def R2 (X : MX) (Y : MY) (c : Fin 10240) (r : Fin 13312) : EReal := codeOf (D X Y r c) (isc (cQ X Y ⟨r.val / 128, by omega⟩ c))
def R3 (X : MX) (Y : MY) (c : Fin 10240) (t : Fin 104) : EReal := sc (cQ X Y t c)

/-- Every element of both arguments is finite and at most 2^64 in magnitude. -/
def Bounded (X : MX) (Y : MY) : Prop := (∀ i, Small (2 ^ 64) (X i)) ∧ ∀ i, Small (2 ^ 64) (Y i)

theorem D_small {X : MX} {Y : MY} (h : Bounded X Y) (r : Fin 13312) (c : Fin 10240) : Small (2 ^ 129) (D X Y r c) := by
  unfold D
  split
  · exact dg_small (h.1 _) (h.1 _) (h.2 _)
  · exact du_small (h.1 _) (h.2 _)

theorem sc_rQ {X : MX} {Y : MY} (h : Bounded X Y) (r : Fin 13312) (g : Fin 80) :
    scaleS (rQ X Y r g) = sc (rQ X Y r g) ∧ invS (rQ X Y r g) = isc (rQ X Y r g) :=
  have b := qOf_range (fun l => D X Y r ⟨g.val * 128 + l.val, by omega⟩) fun _ => D_small h _ _
  scale_eq _ b.1 b.2
theorem sc_cQ {X : MX} {Y : MY} (h : Bounded X Y) (t : Fin 104) (c : Fin 10240) :
    scaleS (cQ X Y t c) = sc (cQ X Y t c) ∧ invS (cQ X Y t c) = isc (cQ X Y t c) :=
  have b := qOf_range (fun l => D X Y ⟨t.val * 128 + l.val, by omega⟩ c) fun _ => D_small h _ _
  scale_eq _ b.1 b.2

end Cert.Spec

end
-- ==== Proof.Layout.lean ====
module

public import Idealize.ShloMosaic.PureOps.Ideal.Laws
public import Idealize.ShloMosaic.Lib.ValueLayout

/-! How a matrix cut into groups of its columns, or of its rows, reads at an index: the reshapes, the repeated scale and
the group's maximum, at any extents. -/

@[expose] public section

noncomputable section

namespace Cert.Layout

open Idealize.ShloMosaic Idealize.ShloMosaic.ValueIdx

variable {α : Type}

/-- Columns cut into groups. -/
theorem split_cols {r c g b : ℕ} (x : (⟨2, ![r, c]⟩ : Shape).Idx → α) (h : (⟨2, ![r, c]⟩ : Shape).ShapeCasts ⟨3, ![r, g, b]⟩)
    (i : Fin r) (k : Fin g) (l : Fin b) (j : Fin c) (hj : j.val = k.val * b + l.val) (hc : c = g * b) :
    shapeCast ⟨3, ![r, g, b]⟩ x h (ix3 i k l) = x (ix2 i j) :=
  shapeCast_apply x h (ix3 i k l) (ix2 i j) (by
    rw [Shape.rowMajor_val_three, Shape.rowMajor_val_two]
    show i.val * c + j.val = (i.val * g + k.val) * b + l.val
    rw [hj, hc, Nat.add_mul, Nat.mul_assoc, Nat.add_assoc])

/-- Groups of columns laid side by side again. -/
theorem merge_cols {r c g b : ℕ} (x : (⟨3, ![r, g, b]⟩ : Shape).Idx → α) (h : (⟨3, ![r, g, b]⟩ : Shape).ShapeCasts ⟨2, ![r, c]⟩)
    (i : Fin r) (k : Fin g) (l : Fin b) (j : Fin c) (hj : j.val = k.val * b + l.val) (hc : c = g * b) :
    shapeCast ⟨2, ![r, c]⟩ x h (ix2 i j) = x (ix3 i k l) :=
  shapeCast_apply x h (ix2 i j) (ix3 i k l) (by
    rw [Shape.rowMajor_val_three, Shape.rowMajor_val_two]
    show (i.val * g + k.val) * b + l.val = i.val * c + j.val
    rw [hj, hc, Nat.add_mul, Nat.mul_assoc, Nat.add_assoc])

/-- Rows cut into groups. -/
theorem split_rows {r c g b : ℕ} (x : (⟨2, ![r, c]⟩ : Shape).Idx → α) (h : (⟨2, ![r, c]⟩ : Shape).ShapeCasts ⟨3, ![g, b, c]⟩)
    (k : Fin g) (l : Fin b) (j : Fin c) (i : Fin r) (hi : i.val = k.val * b + l.val) :
    shapeCast ⟨3, ![g, b, c]⟩ x h (ix3 k l j) = x (ix2 i j) :=
  shapeCast_apply x h (ix3 k l j) (ix2 i j) (by
    rw [Shape.rowMajor_val_three, Shape.rowMajor_val_two]
    show i.val * c + j.val = (k.val * b + l.val) * c + j.val
    rw [hi])

/-- Groups of rows laid one under the other again. -/
theorem merge_rows {r c g b : ℕ} (x : (⟨3, ![g, b, c]⟩ : Shape).Idx → α) (h : (⟨3, ![g, b, c]⟩ : Shape).ShapeCasts ⟨2, ![r, c]⟩)
    (k : Fin g) (l : Fin b) (j : Fin c) (i : Fin r) (hi : i.val = k.val * b + l.val) :
    shapeCast ⟨2, ![r, c]⟩ x h (ix2 i j) = x (ix3 k l j) :=
  shapeCast_apply x h (ix2 i j) (ix3 k l j) (by
    rw [Shape.rowMajor_val_three, Shape.rowMajor_val_two]
    show (k.val * b + l.val) * c + j.val = i.val * c + j.val
    rw [hi])

/-- One value per group of columns, repeated over the group. -/
theorem repeat_cols {r g b : ℕ} (v : (⟨2, ![r, g]⟩ : Shape).Idx → α) (h1 : (⟨2, ![r, g]⟩ : Shape).ShapeCasts ⟨3, ![r, g, 1]⟩)
    (h2 : (⟨3, ![r, g, 1]⟩ : Shape).Broadcasts ⟨3, ![r, g, b]⟩) (i : Fin r) (k : Fin g) (l : Fin b) :
    broadcastTo ⟨3, ![r, g, b]⟩ (shapeCast ⟨3, ![r, g, 1]⟩ v h1) h2 (ix3 i k l) = v (ix2 i k) := by
  refine (broadcastTo_apply _ h2 (ix3 i k l) (ix3 i k (0 : Fin 1)) fun ax => ?_).trans
    (split_cols v h1 i k 0 k (by simp) (by simp))
  match ax with
  | ⟨0, _⟩ =>
    show i.val = if r = 1 then 0 else i.val
    split
    · have := i.isLt; omega
    · rfl
  | ⟨1, _⟩ =>
    show k.val = if g = 1 then 0 else k.val
    split
    · have := k.isLt; omega
    · rfl
  | ⟨2, _⟩ => rfl

/-- One value per group of rows, repeated over the group. -/
theorem repeat_rows {c g b : ℕ} (v : (⟨2, ![g, c]⟩ : Shape).Idx → α) (h1 : (⟨2, ![g, c]⟩ : Shape).ShapeCasts ⟨3, ![g, 1, c]⟩)
    (h2 : (⟨3, ![g, 1, c]⟩ : Shape).Broadcasts ⟨3, ![g, b, c]⟩) (k : Fin g) (l : Fin b) (j : Fin c) :
    broadcastTo ⟨3, ![g, b, c]⟩ (shapeCast ⟨3, ![g, 1, c]⟩ v h1) h2 (ix3 k l j) = v (ix2 k j) := by
  refine (broadcastTo_apply _ h2 (ix3 k l j) (ix3 k (0 : Fin 1) j) fun ax => ?_).trans
    (split_rows v h1 k 0 j k (by simp))
  match ax with
  | ⟨0, _⟩ =>
    show k.val = if g = 1 then 0 else k.val
    split
    · have := k.isLt; omega
    · rfl
  | ⟨1, _⟩ => rfl
  | ⟨2, _⟩ =>
    show j.val = if c = 1 then 0 else j.val
    split
    · have := j.isLt; omega
    · rfl

/-- The maximum over a group of columns. -/
theorem max_cols {r g b : ℕ} (x : (⟨3, ![r, g, b]⟩ : Shape).Idx → EReal) (acc : BitVec (FTy.bits .f32))
    (h : (⟨3, ![r, g, b]⟩ : Shape).Reduces [2] ⟨2, ![r, g]⟩) (hφ : FKind.Formats .f32) (hacc : acc = FKind.maximumf.neutral .f32 hφ)
    (i : Fin r) (k : Fin g) :
    multiReduction (F := Ideal) (φ := .f32) .maximumf [2] ⟨2, ![r, g]⟩ x acc h hφ hacc (ix2 i k)
      = (Finset.univ : Finset (Fin b)).fold max (Ideal.ofBits .f32 acc) fun l => x (ix3 i k l) := by
  rw [Ideal.multiReduction_maximumf_single]
  refine congrArg (fun f : Fin b → EReal => (Finset.univ : Finset (Fin b)).fold max (Ideal.ofBits .f32 acc) f) (funext fun l => congrArg x (funext fun ax => ?_))
  match ax with
  | ⟨0, _⟩ => rfl
  | ⟨1, _⟩ => rfl
  | ⟨2, _⟩ => rfl

/-- The maximum over a group of rows. -/
theorem max_rows {c g b : ℕ} (x : (⟨3, ![g, b, c]⟩ : Shape).Idx → EReal) (acc : BitVec (FTy.bits .f32))
    (h : (⟨3, ![g, b, c]⟩ : Shape).Reduces [1] ⟨2, ![g, c]⟩) (hφ : FKind.Formats .f32) (hacc : acc = FKind.maximumf.neutral .f32 hφ)
    (k : Fin g) (j : Fin c) :
    multiReduction (F := Ideal) (φ := .f32) .maximumf [1] ⟨2, ![g, c]⟩ x acc h hφ hacc (ix2 k j)
      = (Finset.univ : Finset (Fin b)).fold max (Ideal.ofBits .f32 acc) fun l => x (ix3 k l j) := by
  rw [Ideal.multiReduction_maximumf_single]
  refine congrArg (fun f : Fin b → EReal => (Finset.univ : Finset (Fin b)).fold max (Ideal.ofBits .f32 acc) f) (funext fun l => congrArg x (funext fun ax => ?_))
  match ax with
  | ⟨0, _⟩ => rfl
  | ⟨1, _⟩ => rfl
  | ⟨2, _⟩ => rfl

/-- A matrix transposed. -/
theorem transposed {a b : ℕ} (x : (⟨2, ![a, b]⟩ : Shape).Idx → α) (h : (⟨2, ![a, b]⟩ : Shape).Transposes [1, 0] ⟨2, ![b, a]⟩)
    (i : Fin a) (j : Fin b) : transpose ⟨2, ![b, a]⟩ [1, 0] x h (ix2 j i) = x (ix2 i j) := by
  refine congrArg x (funext fun ax => ?_)
  match ax with
  | ⟨0, _⟩ => rfl
  | ⟨1, _⟩ => rfl

end Cert.Layout

end
-- ==== Proof.KerTile.lean ====
module

public import proofs.«01_k».proof.Proof.KernelIdeal.Block
public import proofs.«01_k».proof.Proof.Spec
public import proofs.«01_k».proof.Proof.Layout
public import Idealize.ShloMosaic.Lib.Pointwise

/-! What one block of 128 rows gives at each index, over the extended reals: the tiles of its gradient, the scales of
their rows and columns, and the codes. -/

@[expose] public section

set_option maxRecDepth 16384

noncomputable section

namespace Cert.KernelIdeal.Val

open Cert.KernelIdeal.Gen Cert.KernelIdeal.Hand Cert.Scale Cert.Spec Cert.Layout
open Idealize.ShloMosaic hiding ix2 ix3
open Idealize.ShloMosaic.TcCoe Idealize.ShloMosaic.ValueIdx

/-! ## The operations of a tile -/

section
variable {s : Shape} (q : FVec Ideal s .f32) (j : s.Idx)

theorem stepF_pw (b : BitVec 32) (f : IVec s 32) : stepF q b f j = stepS (q j) b (f j) := rfl
theorem fieldV_pw : fieldV q j = fieldS (q j) := by
  unfold fieldV fieldS
  rw [stepF_pw, stepF_pw, stepF_pw, stepF_pw, stepF_pw, stepF_pw, stepF_pw, stepF_pw]
  rfl
theorem select_pw (f : IVec s 32) :
    select (ori (cmpi .eq f (broadcast s 0#32)) (cmpi .eq f (broadcast s 255#32))) (broadcast s 0#32) (subi f (broadcast s 126#32)) j
      = Scalar.select (IntOp.ori (IntOp.cmpi .eq (f j) 0#32) (IntOp.cmpi .eq (f j) 255#32)) 0#32 (IntOp.subi (f j) 126#32) := rfl
theorem expoV_pw : expoV q j = expoS (q j) := by
  unfold expoV expoS
  rw [select_pw, fieldV_pw]
theorem word_pw (e : IVec s 32) :
    bitcastToFloat (F := Ideal) .f32 (shli (addi e (broadcast s 127#32)) (broadcast s 23#32)) j = Ideal.ofBits .f32 (IntOp.shli .vector (IntOp.addi (e j) 127#32) 23#32) := rfl
theorem iword_pw (e : IVec s 32) :
    bitcastToFloat (F := Ideal) .f32 (shli (subi (broadcast s 127#32) e) (broadcast s 23#32)) j = Ideal.ofBits .f32 (IntOp.shli .vector (IntOp.subi 127#32 (e j)) 23#32) := rfl
theorem scaleV_pw : scaleV q j = scaleS (q j) := by
  unfold scaleV scaleS
  rw [word_pw, expoV_pw]
theorem invV_pw : invV q j = invS (q j) := by
  unfold invV invS
  rw [iword_pw, expoV_pw]
end

theorem dU_pw (a d : Vec Ideal S128x128 .bf16) (i l : Fin 128) :
    dU a d (Idealize.ShloMosaic.ix2 i l) = kDu (a (Idealize.ShloMosaic.ix2 i l)) (d (Idealize.ShloMosaic.ix2 i l)) := by
  unfold kDu kSig
  rw [Ideal.ofBits_one_f32, Ideal.ofBits_zero_f32]
  pointwise [dU, k0_pay8, k0_pay7, k0_pay6, k0_pay5]
  try rfl

theorem dG_pw (a b d : Vec Ideal S128x128 .bf16) (i l : Fin 128) :
    dG a b d (Idealize.ShloMosaic.ix2 i l)
      = kDg (a (Idealize.ShloMosaic.ix2 i l)) (b (Idealize.ShloMosaic.ix2 i l)) (d (Idealize.ShloMosaic.ix2 i l)) := by
  unfold kDg kSig
  rw [Ideal.ofBits_one_f32, Ideal.ofBits_zero_f32]
  pointwise [dG, k0_pay9, k0_pay8, k0_pay7, k0_pay6, k0_pay5]
  try rfl

theorem rowQ_pw (v : FVec Ideal S128x128 .f32) (i : Fin 128) :
    rowQ v (Idealize.ShloMosaic.ix2 i (0 : Fin 1)) = qOf fun l => v (Idealize.ShloMosaic.ix2 i l) := by
  unfold qOf
  pointwise [rowQ, k0_pay30, k0_pay29]
  try rfl

theorem colQ_pw (v : FVec Ideal S128x128 .f32) (l : Fin 128) :
    colQ v (Idealize.ShloMosaic.ix2 (0 : Fin 1) l) = qOf fun i => v (Idealize.ShloMosaic.ix2 i l) := by
  unfold qOf
  pointwise [colQ, k0_pay39]
  try rfl

theorem clip_pw {s : Shape} (a b : FVec Ideal s .f32) (j : s.Idx) :
    truncf .fp8e4m3 (minimumf (broadcast s (Scalar.ofBits (F := Ideal) .f32 0x43E00000#32)) (maximumf (broadcast s (Scalar.ofBits (F := Ideal) .f32 0xC3E00000#32)) (mulf a b))) bitsLt_fp8e4m3_f32 j
      = codeOf (a j) (b j) := rfl

theorem rowCodes_pw (v : FVec Ideal S128x128 .f32) (i l : Fin 128) :
    rowCodes v (ix2 i l) = codeOf (v (ix2 i l)) (invS (qOf fun l => v (ix2 i l))) := by
  unfold rowCodes clipV
  refine (clip_pw _ _ _).trans (congrArg (codeOf _) ?_)
  refine (broadcastTo_a1_ab_apply _ broadcasts_S128x1_S128x128 i l).trans ?_
  rw [invV_pw]; exact congrArg invS (rowQ_pw v i)

/-- A row repeated under itself reads its own element. -/
theorem broadcastTo_1b_ab_apply {α : Type} {a b : ℕ} (v : (⟨2, ![1, b]⟩ : Shape).Idx → α) (h : (⟨2, ![1, b]⟩ : Shape).Broadcasts ⟨2, ![a, b]⟩)
    (p : Fin a) (c : Fin b) : broadcastTo ⟨2, ![a, b]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if b = 1 then 0 else c.val
    split
    · have := c.isLt; omega
    · rfl

theorem colCodes_pw (v : FVec Ideal S128x128 .f32) (l i : Fin 128) :
    colCodes v (ix2 l i) = codeOf (v (ix2 i l)) (invS (qOf fun i => v (ix2 i l))) := by
  unfold colCodes clipV
  refine (transposed _ transposes_S128x128_p1_0_S128x128 i l).trans ?_
  refine (clip_pw _ _ _).trans (congrArg (codeOf _) ?_)
  refine (broadcastTo_1b_ab_apply _ broadcasts_S1x128_S128x128 i l).trans ?_
  rw [invV_pw]; exact congrArg invS (colQ_pw v l)

/-! ## A block -/

section
/-- A row of a block is a row of the matrix. -/
theorem row_lt (t : Fin 104) (i : Fin 128) : t.val * 128 + i.val < 13312 := by omega

variable {X : MX} {Y : MY} (hb : Bounded X Y) (t : Fin 104) (x : Vec Ideal S128x10240 .bf16) (d : Vec Ideal S128x5120 .bf16)
  (hx : ∀ (i : Fin 128) (c : Fin 10240), x (ix2 i c) = X (ix2 ⟨t.val * 128 + i.val, row_lt t i⟩ c))
  (hd : ∀ (i : Fin 128) (c : Fin 5120), d (ix2 i c) = Y (ix2 ⟨t.val * 128 + i.val, row_lt t i⟩ c))
include hb hx hd

theorem win_at (k o : ℕ) (h : ∀ a : Fin 2, ![0, 128 * k + o] a + S128x128.size a ≤ S128x10240.size a) (i l : Fin 128) (c : Fin 10240) (hc : c.val = 128 * k + o + l.val) :
    VecWindow.window x ![0, 128 * k + o] S128x128.size h (ix2 i l) = X (ix2 ⟨t.val * 128 + i.val, row_lt t i⟩ c) := by
  refine (congrArg x (funext fun a => Fin.ext ?_)).trans (hx i c)
  match a with
  | ⟨0, _⟩ => show 0 + 1 * i.val = i.val; omega
  | ⟨1, _⟩ => show 128 * k + o + 1 * l.val = c.val; omega
theorem wind_at (k : ℕ) (h : ∀ a : Fin 2, ![0, 128 * k] a + S128x128.size a ≤ S128x5120.size a) (i l : Fin 128) (c : Fin 5120) (hc : c.val = 128 * k + l.val) :
    VecWindow.window d ![0, 128 * k] S128x128.size h (ix2 i l) = Y (ix2 ⟨t.val * 128 + i.val, row_lt t i⟩ c) := by
  refine (congrArg d (funext fun a => Fin.ext ?_)).trans (hd i c)
  match a with
  | ⟨0, _⟩ => show 0 + 1 * i.val = i.val; omega
  | ⟨1, _⟩ => show 128 * k + 1 * l.val = c.val; omega

/-- A tile of the gradient. -/
theorem tile_at (g : ℕ) (hg : g < 80) (i l : Fin 128) :
    tileOf x d g (ix2 i l) = D X Y ⟨t.val * 128 + i.val, row_lt t i⟩ ⟨g * 128 + l.val, by omega⟩ := by
  unfold D
  by_cases h : g < 40
  · rw [dif_pos (by show g * 128 + l.val < 5120; omega), tileOf_g x d h rfl]
    unfold gTile
    refine (dG_pw _ _ _ i l).trans ?_
    have e1 := win_at hb t x d hx hd g 0 (inbx_0 h) i l ⟨g * 128 + l.val, by omega⟩ (by show g * 128 + l.val = 128 * g + 0 + l.val; omega)
    have e2 := win_at hb t x d hx hd g 5120 (inbx_1 h) i l ⟨g * 128 + l.val + 5120, by omega⟩ (by show g * 128 + l.val + 5120 = 128 * g + 5120 + l.val; omega)
    have e3 := wind_at hb t x d hx hd g (inbd h) i l ⟨g * 128 + l.val, by omega⟩ (by show g * 128 + l.val = 128 * g + l.val; omega)
    refine (congr (congrArg₂ kDg e1 e2) e3).trans ?_
    obtain ⟨r1, h1, -⟩ := hb.1 (ix2 ⟨t.val * 128 + i.val, row_lt t i⟩ ⟨g * 128 + l.val, by omega⟩)
    obtain ⟨r2, h2, -⟩ := hb.1 (ix2 ⟨t.val * 128 + i.val, row_lt t i⟩ ⟨g * 128 + l.val + 5120, by omega⟩)
    obtain ⟨r3, h3, -⟩ := hb.2 (ix2 ⟨t.val * 128 + i.val, row_lt t i⟩ ⟨g * 128 + l.val, by omega⟩)
    rw [h1, h2, h3]; exact dg_eq r1 r2 r3
  · rw [dif_neg (by show ¬ g * 128 + l.val < 5120; omega), tileOf_u x d (k := g - 40) (by omega) (by omega)]
    unfold uTile
    refine (dU_pw _ _ i l).trans ?_
    have e1 := win_at hb t x d hx hd (g - 40) 0 (inbx_0 (by omega)) i l ⟨g * 128 + l.val - 5120, by omega⟩ (by show g * 128 + l.val - 5120 = 128 * (g - 40) + 0 + l.val; omega)
    have e3 := wind_at hb t x d hx hd (g - 40) (inbd (by omega)) i l ⟨g * 128 + l.val - 5120, by omega⟩ (by show g * 128 + l.val - 5120 = 128 * (g - 40) + l.val; omega)
    refine (congrArg₂ kDu e1 e3).trans ?_
    obtain ⟨r1, h1, -⟩ := hb.1 (ix2 ⟨t.val * 128 + i.val, row_lt t i⟩ ⟨g * 128 + l.val - 5120, by omega⟩)
    obtain ⟨r3, h3, -⟩ := hb.2 (ix2 ⟨t.val * 128 + i.val, row_lt t i⟩ ⟨g * 128 + l.val - 5120, by omega⟩)
    rw [h1, h3]; exact du_eq r1 r3

/-- The magnitude of a row of a tile, and of a column. -/
theorem rq_at (g : ℕ) (hg : g < 80) (i : Fin 128) :
    (qOf fun l => tileOf x d g (ix2 i l)) = rQ X Y ⟨t.val * 128 + i.val, row_lt t i⟩ ⟨g, hg⟩ :=
  congrArg qOf (funext fun l => tile_at hb t x d hx hd g hg i l)
theorem cq_at (g : ℕ) (hg : g < 80) (l : Fin 128) :
    (qOf fun i => tileOf x d g (ix2 i l)) = cQ X Y t ⟨g * 128 + l.val, by omega⟩ :=
  congrArg qOf (funext fun i => tile_at hb t x d hx hd g hg i l)

theorem rcV_at (i : Fin 128) (c : Fin 10240) : rcV x d (ix2 i c) = R0 X Y ⟨t.val * 128 + i.val, row_lt t i⟩ c := by
  have hg : c.val / 128 < 80 := by omega
  have hl : c.val % 128 < 128 := Nat.mod_lt _ (by decide)
  refine (rowCodes_pw (tileOf x d (c.val / 128)) i ⟨c.val % 128, hl⟩).trans ?_
  rw [tile_at hb t x d hx hd _ hg, rq_at hb t x d hx hd _ hg, (sc_rQ hb _ _).2]
  have e : (⟨c.val / 128 * 128 + c.val % 128, by omega⟩ : Fin 10240) = c := Fin.ext (by show c.val / 128 * 128 + c.val % 128 = c.val; omega)
  unfold R0
  exact congrArg (fun z => codeOf (D X Y _ z) _) e

theorem rsV_at (i : Fin 128) (g : Fin 80) : rsV x d (ix2 i g) = R1 X Y ⟨t.val * 128 + i.val, row_lt t i⟩ g := by
  refine (scaleV_pw (rowQ (tileOf x d g.val)) (ix2 i (0 : Fin 1))).trans ?_
  rw [show rowQ (tileOf x d g.val) (ix2 i (0 : Fin 1)) = _ from rowQ_pw _ i]
  refine (congrArg scaleS (rq_at hb t x d hx hd _ g.isLt i)).trans ?_
  exact (sc_rQ hb _ _).1

theorem ccV_at (c : Fin 10240) (i : Fin 128) : ccV x d (ix2 c i) = R2 X Y c ⟨t.val * 128 + i.val, row_lt t i⟩ := by
  have hg : c.val / 128 < 80 := by omega
  have hl : c.val % 128 < 128 := Nat.mod_lt _ (by decide)
  refine (colCodes_pw (tileOf x d (c.val / 128)) ⟨c.val % 128, hl⟩ i).trans ?_
  rw [tile_at hb t x d hx hd _ hg, cq_at hb t x d hx hd _ hg, (sc_cQ hb _ _).2]
  have e : (⟨c.val / 128 * 128 + c.val % 128, by omega⟩ : Fin 10240) = c := Fin.ext (by show c.val / 128 * 128 + c.val % 128 = c.val; omega)
  have e2 : (⟨(t.val * 128 + i.val) / 128, by omega⟩ : Fin 104) = t := Fin.ext (by show (t.val * 128 + i.val) / 128 = t.val; omega)
  unfold R2
  rw [show (⟨(⟨t.val * 128 + i.val, row_lt t i⟩ : Fin 13312).val / 128, by omega⟩ : Fin 104) = t from e2]
  exact congrArg (fun z => codeOf (D X Y _ z) (isc (cQ X Y t z))) e

theorem csV_at (c : Fin 10240) : csV x d c = R3 X Y c t := by
  have hg : c.val / 128 < 80 := by omega
  have hl : c.val % 128 < 128 := Nat.mod_lt _ (by decide)
  refine (scaleV_pw (colQ (tileOf x d (c.val / 128))) (ix2 (0 : Fin 1) ⟨c.val % 128, hl⟩)).trans ?_
  rw [show colQ (tileOf x d (c.val / 128)) (ix2 (0 : Fin 1) ⟨c.val % 128, hl⟩) = _ from colQ_pw _ _]
  refine (congrArg scaleS (cq_at hb t x d hx hd _ hg ⟨c.val % 128, hl⟩)).trans ?_
  refine (sc_cQ hb _ _).1.trans ?_
  have e : (⟨c.val / 128 * 128 + c.val % 128, by omega⟩ : Fin 10240) = c := Fin.ext (by show c.val / 128 * 128 + c.val % 128 = c.val; omega)
  exact congrArg (fun z => sc (cQ X Y t z)) e

end

end Cert.KernelIdeal.Val

end
-- ==== Proof.KerValue.lean ====
module

public import proofs.«01_k».proof.Proof.KernelIdeal.Body
public import proofs.«01_k».proof.Proof.KerTile
public import Idealize.ShloMosaic.Lib.Pipeline.ValueKit
public import Idealize.ShloMosaic.Lib.Claim

/-! The kernel's four results at each index, over the extended reals. -/

@[expose] public section

set_option maxRecDepth 16384

noncomputable section

namespace Cert.KernelIdeal.Val

open Cert.KernelIdeal.Gen Cert.KernelIdeal.Hand Cert.Scale Cert.Spec Cert.Layout
open Idealize.ShloMosaic hiding ix2 ix3
open Idealize.ShloMosaic.TcCoe Idealize.ShloMosaic.ValueIdx
open Idealize.SL.Sem

variable (m : (ℓ : Loc nD τ sig) → Buf (Elt Ideal) ℓ) (ρ : Dev nD → PrngReg)

/-- The two arguments as matrices, as the pipeline finds them. -/
def inX (c : Dev nD) : MX := V m c main_v0
def inY (c : Dev nD) : MY := V m c main_v1

theorem inX_eq (c : Dev nD) : inX m c = shapeCast S13312x10240 (m ((c.tc : Thread nD τ).loc main_arg0)) shapeCasts_S13x1024x10240_S13312x10240 := by
  unfold inX
  entry_read
  try rfl
theorem inY_eq (c : Dev nD) : inY m c = shapeCast S13312x5120 (m ((c.tc : Thread nD τ).loc main_arg1)) shapeCasts_S13x1024x5120_S13312x5120 := by
  unfold inY
  entry_read
  try rfl

/-- Where the blocks of point `t` lie: rows of the arguments and of the row results, columns of the transposed codes;
the transposed scales are one block. -/
theorem idx0 : ∀ t, win0_0.index t = ![t.val, 0] := by decide +kernel
theorem idx1 : ∀ t, win0_1.index t = ![t.val, 0] := by decide +kernel
theorem idx2 : ∀ t, win0_2.index t = ![t.val, 0] := by decide +kernel
theorem idx3 : ∀ t, win0_3.index t = ![t.val, 0] := by decide +kernel
theorem idx4 : ∀ t, win0_4.index t = ![0, t.val] := by decide +kernel
theorem idx5 : ∀ t, win0_5.index t = ![0, 0] := by decide +kernel

theorem blk0_at (c : Dev nD) (t : Fin 104) (i : Fin 128) (j : Fin 10240) :
    (iblk m c 0 t : Vec Ideal S128x10240 .bf16) (ix2 i j) = inX m c (ix2 ⟨t.val * 128 + i.val, row_lt t i⟩ j) := by
  unfold iblk inX
  blk_simp
  refine congrArg (V m c main_v0) ?_
  blk_ext [idx0 t]

theorem blk1_at (c : Dev nD) (t : Fin 104) (i : Fin 128) (j : Fin 5120) :
    (iblk m c 1 t : Vec Ideal S128x5120 .bf16) (ix2 i j) = inY m c (ix2 ⟨t.val * 128 + i.val, row_lt t i⟩ j) := by
  unfold iblk inY
  blk_simp
  refine congrArg (V m c main_v1) ?_
  blk_ext [idx1 t]

theorem arr2 (c : Dev nD) (hb : Bounded (inX m c) (inY m c)) :
    (dats m 0 c).arrAt 2 cfg0.N = fun y : S13312x10240.Idx => R0 (inX m c) (inY m c) (y 0) (y 1) := by
  refine (dats m 0 c).arrAt_eq_of_covers 2 _ (by decide +kernel) fun t hf y => ?_
  blk_simp
  rw [after0_2]
  have h := rcV_at hb t (iblk m c 0 t) (iblk m c 1 t) (fun i j => blk0_at m c t i j) (fun i j => blk1_at m c t i j)
    (y 0) (y 1)
  refine Eq.trans ?_ (h.trans ?_)
  · exact congrArg (rcV (iblk m c 0 t) (iblk m c 1 t)) (ValueIdx.eq_ix2 y)
  · refine congrArg₂ (R0 (inX m c) (inY m c)) ?_ ?_ <;> apply Fin.ext <;> blk_simp [idx2 t] <;> simp

theorem arr3 (c : Dev nD) (hb : Bounded (inX m c) (inY m c)) :
    (dats m 0 c).arrAt 3 cfg0.N = fun y : S13312x80.Idx => R1 (inX m c) (inY m c) (y 0) (y 1) := by
  refine (dats m 0 c).arrAt_eq_of_covers 3 _ (by decide +kernel) fun t hf y => ?_
  blk_simp
  rw [after0_3]
  have h := rsV_at hb t (iblk m c 0 t) (iblk m c 1 t) (fun i j => blk0_at m c t i j) (fun i j => blk1_at m c t i j)
    (y 0) (y 1)
  refine Eq.trans ?_ (h.trans ?_)
  · exact congrArg (rsV (iblk m c 0 t) (iblk m c 1 t)) (ValueIdx.eq_ix2 y)
  · refine congrArg₂ (R1 (inX m c) (inY m c)) ?_ ?_ <;> apply Fin.ext <;> blk_simp [idx3 t] <;> simp

theorem arr4 (c : Dev nD) (hb : Bounded (inX m c) (inY m c)) :
    (dats m 0 c).arrAt 4 cfg0.N = fun y : S10240x13312.Idx => R2 (inX m c) (inY m c) (y 0) (y 1) := by
  refine (dats m 0 c).arrAt_eq_of_covers 4 _ (by decide +kernel) fun t hf y => ?_
  blk_simp
  rw [after0_4]
  have h := ccV_at hb t (iblk m c 0 t) (iblk m c 1 t) (fun i j => blk0_at m c t i j) (fun i j => blk1_at m c t i j)
    (y 0) (y 1)
  refine Eq.trans ?_ (h.trans ?_)
  · exact congrArg (ccV (iblk m c 0 t) (iblk m c 1 t)) (ValueIdx.eq_ix2 y)
  · refine congrArg₂ (R2 (inX m c) (inY m c)) ?_ ?_ <;> apply Fin.ext <;> blk_simp [idx4 t] <;> simp

theorem arr5 (c : Dev nD) (hb : Bounded (inX m c) (inY m c)) :
    (dats m 0 c).arrAt 5 cfg0.N = fun y : S10240x104.Idx => R3 (inX m c) (inY m c) (y 0) (y 1) := by
  refine (dats m 0 c).arrAt_eq_of_covers 5 _ (by decide +kernel) fun t hf y => ?_
  blk_simp
  rw [after0_5]
  have h := csV_at hb (y 1 : Fin 104) (iblk m c 0 (y 1 : Fin 104)) (iblk m c 1 (y 1 : Fin 104))
    (fun i j => blk0_at m c (y 1) i j) (fun i j => blk1_at m c (y 1) i j) (y 0)
  refine Eq.trans ?_ (h.trans ?_)
  · rfl
  · refine congrArg₂ (R3 (inX m c) (inY m c)) ?_ ?_ <;> apply Fin.ext <;> blk_simp [idx5 t] <;> simp

end Cert.KernelIdeal.Val

end
-- ==== Proof.RefValue.lean ====
module

public import proofs.«01_k».proof.Proof.Gen.ReferenceIdeal.Frame
public import proofs.«01_k».proof.Proof.Spec
public import proofs.«01_k».proof.Proof.Layout
public import Idealize.ShloMosaic.Lib.Pointwise
public import Idealize.ShloMosaic.Lib.Pipeline.ValueKit.Tiles

/-! The reference's four results at each index, over the extended reals. -/

@[expose] public section

set_option maxRecDepth 16384

noncomputable section

namespace Cert.ReferenceIdeal.Val

open Cert.ReferenceIdeal.Gen Cert.Scale Cert.Spec Cert.Layout
open Idealize.ShloMosaic hiding ix2 ix3
open Idealize.ShloMosaic.TcCoe Idealize.ShloMosaic.ValueIdx

/-- The gradient the reference computes, from the three loaded matrices. -/
theorem pay1_at (v0 v3 v6 : Vec Ideal S13312x5120 .bf16) (i : Fin 13312) (j : Fin 10240) :
    k0_pay1 v0 v3 v6 (Idealize.ShloMosaic.ix2 i j)
      = if h : j.val < 5120 then refDg (v0 (Idealize.ShloMosaic.ix2 i ⟨j.val, h⟩)) (v3 (Idealize.ShloMosaic.ix2 i ⟨j.val, h⟩)) (v6 (Idealize.ShloMosaic.ix2 i ⟨j.val, h⟩))
        else refDu (v0 (Idealize.ShloMosaic.ix2 i ⟨j.val - 5120, by omega⟩)) (v6 (Idealize.ShloMosaic.ix2 i ⟨j.val - 5120, by omega⟩)) := by
  pointwise [k0_pay1]
  split
  · unfold refDg; rw [Ideal.ofBits_one_f32]
  · rfl

theorem ld0 (X : Vec Ideal S13312x10240 .bf16) (i : Fin 13312) (j : Fin 5120) :
    View.ld X r0_0 (ix2 i j) = X (ix2 i ⟨j.val, by omega⟩) := by
  refine congrArg X (funext fun a => Fin.ext ?_)
  match a with
  | ⟨0, _⟩ => show 0 + 1 * i.val = i.val; omega
  | ⟨1, _⟩ => show 0 + 1 * j.val = j.val; omega
theorem ld1 (X : Vec Ideal S13312x10240 .bf16) (i : Fin 13312) (j : Fin 5120) :
    View.ld X r0_1 (ix2 i j) = X (ix2 i ⟨j.val + 5120, by omega⟩) := by
  refine congrArg X (funext fun a => Fin.ext ?_)
  match a with
  | ⟨0, _⟩ => show 0 + 1 * i.val = i.val; omega
  | ⟨1, _⟩ => show 5120 + 1 * j.val = j.val + 5120; omega
theorem ld2 (Y : Vec Ideal S13312x5120 .bf16) (i : Fin 13312) (j : Fin 5120) :
    View.ld Y r0_2 (ix2 i j) = Y (ix2 i j) := by
  refine congrArg Y (funext fun a => Fin.ext ?_)
  match a with
  | ⟨0, _⟩ => show 0 + 1 * i.val = i.val; omega
  | ⟨1, _⟩ => show 0 + 1 * j.val = j.val; omega

/-- The reference's gradient. -/
theorem grad_at (X : Vec Ideal S13312x10240 .bf16) (Y : Vec Ideal S13312x5120 .bf16) (i : Fin 13312) (j : Fin 10240) :
    k0_pay11 X Y (ix2 i j) = D X Y i j := by
  unfold k0_pay11 D
  refine (pay1_at _ _ _ i j).trans ?_
  split
  · next h => exact congr (congrArg₂ refDg (ld0 X i ⟨j.val, h⟩) (ld1 X i ⟨j.val, h⟩)) (ld2 Y i ⟨j.val, h⟩)
  · next h => exact congrArg₂ refDu (ld0 X i ⟨j.val - 5120, by omega⟩) (ld2 Y i ⟨j.val - 5120, by omega⟩)

/-! ## The operations at an index, at any shape -/

section
variable {s : Shape}

theorem expo_pw (q : FVec Ideal s .f32) (j : s.Idx) :
    select (cmpf .olt q (broadcast s (Scalar.ofBits (F := Ideal) .f32 0x00800000#32))) (broadcast s (Scalar.ofBits (F := Ideal) .f32 0x00000000#32))
      (addf (floor (divf (log q) (log (broadcast s (Scalar.ofBits (F := Ideal) .f32 0x40000000#32))))) (broadcast s (Scalar.ofBits (F := Ideal) .f32 0x3F800000#32))) j
      = refE (q j) := rfl
theorem part_pw (m : FVec Ideal s .f32) (j : s.Idx) :
    mulf m (broadcast s (Scalar.ofBits (F := Ideal) .f32 0x3B124925#32)) j = m j * Ideal.ofBits .f32 0x3B124925#32 := rfl
theorem absf_pw (m : FVec Ideal s .f32) (j : s.Idx) : absf m j = max (m j) (-(m j)) := rfl
theorem inv_pw (e : FVec Ideal s .f32) (j : s.Idx) :
    exp2 (subf (broadcast s (Scalar.ofBits (F := Ideal) .f32 0x00000000#32)) e) j = Ideal.exp2 (Ideal.ofBits .f32 0x00000000#32 - e j) := rfl
theorem exp2_pw (e : FVec Ideal s .f32) (j : s.Idx) : exp2 e j = Ideal.exp2 (e j) := rfl
theorem mulf_pw (a b : FVec Ideal s .f32) (j : s.Idx) : mulf a b j = (a j * b j : EReal) := rfl
theorem code_pw (a b : FVec Ideal s .f32) (j : s.Idx) :
    truncf .fp8e4m3 (minimumf (broadcast s (Scalar.ofBits (F := Ideal) .f32 0x43E00000#32)) (maximumf (broadcast s (Scalar.ofBits (F := Ideal) .f32 0xC3E00000#32)) (mulf a b))) bitsLt_fp8e4m3_f32 j
      = codeOf (a j) (b j) := rfl
end

section
variable (X : Vec Ideal S13312x10240 .bf16) (Y : Vec Ideal S13312x5120 .bf16)

abbrev A0 : Vec Ideal S13312x5120 .bf16 := View.ld X r0_0
abbrev A1 : Vec Ideal S13312x5120 .bf16 := View.ld X r0_1
abbrev A2 : Vec Ideal S13312x5120 .bf16 := View.ld Y r0_2

theorem pay2_at (i : Fin 13312) (k : Fin 80) (l : Fin 128) :
    k0_pay2 (A0 X) (A1 X) (A2 Y) (ix3 i k l) = D X Y i ⟨k.val * 128 + l.val, by omega⟩ :=
  (split_cols (k0_pay1 (A0 X) (A1 X) (A2 Y)) _ i k l ⟨k.val * 128 + l.val, by omega⟩ rfl rfl).trans (grad_at X Y i _)

/-- The exponent of a row group's scale. -/
theorem pay3_at (i : Fin 13312) (k : Fin 80) : k0_pay3 (A0 X) (A1 X) (A2 Y) (ix2 i k) = refE (rQ X Y i k) := by
  unfold k0_pay3
  refine (expo_pw _ _).trans (congrArg refE ((part_pw _ _).trans ?_))
  refine (congrArg (fun z : EReal => z * Ideal.ofBits .f32 0x3B124925#32) (max_cols (absf (k0_pay2 (A0 X) (A1 X) (A2 Y))) 0xFF800000#32 reduces_S13312x80x128_S13312x80 (.inl rfl) rfl i k)).trans ?_
  refine congrArg (fun f : Fin 128 → EReal => (Finset.univ : Finset (Fin 128)).fold max (Ideal.ofBits .f32 0xFF800000#32) f * Ideal.ofBits .f32 0x3B124925#32) (funext fun l => ?_)
  rw [absf_pw, pay2_at X Y i k l]

theorem pay4_at (i : Fin 13312) (k : Fin 80) (l : Fin 128) :
    k0_pay4 (A0 X) (A1 X) (A2 Y) (ix3 i k l) = D X Y i ⟨k.val * 128 + l.val, by omega⟩ * isc (rQ X Y i k) := by
  unfold k0_pay4
  rw [mulf_pw, pay2_at]
  refine congrArg (fun z : EReal => D X Y i ⟨k.val * 128 + l.val, by omega⟩ * z) ?_
  refine (repeat_cols _ shapeCasts_S13312x80_S13312x80x1 broadcasts_S13312x80x1_S13312x80x128 i k l).trans ?_
  rw [inv_pw, pay3_at]; rfl

theorem pay6_at (i : Fin 13312) (j : Fin 10240) :
    k0_pay6 (k0_pay4 (A0 X) (A1 X) (A2 Y)) (Scalar.ofBits .f32 0xC3E00000#32) (Scalar.ofBits .f32 0x43E00000#32) (ix2 i j) = R0 X Y i j := by
  have hj : j.val = j.val / 128 * 128 + j.val % 128 := by omega
  have h1 := merge_cols (truncf .fp8e4m3 (minimumf (broadcast S13312x80x128 (Scalar.ofBits (F := Ideal) .f32 0x43E00000#32))
      (maximumf (broadcast S13312x80x128 (Scalar.ofBits (F := Ideal) .f32 0xC3E00000#32)) (k0_pay4 (A0 X) (A1 X) (A2 Y)))) bitsLt_fp8e4m3_f32)
    shapeCasts_S13312x80x128_S13312x10240 i ⟨j.val / 128, by omega⟩ ⟨j.val % 128, by omega⟩ j hj rfl
  refine h1.trans ?_
  have h2 := pay4_at X Y i ⟨j.val / 128, by omega⟩ ⟨j.val % 128, by omega⟩
  have h3 : (⟨j.val / 128 * 128 + j.val % 128, by omega⟩ : Fin 10240) = j := Fin.ext hj.symm
  refine (congrArg (fun z : EReal => min (Ideal.ofBits .f32 0x43E00000#32) (max (Ideal.ofBits .f32 0xC3E00000#32) z)) h2).trans ?_
  unfold R0 codeOf
  rw [h3]

theorem pay7_at (t : Fin 104) (l : Fin 128) (j : Fin 10240) :
    k0_pay7 (k0_pay11 X Y) (ix3 t l j) = D X Y ⟨t.val * 128 + l.val, by omega⟩ j :=
  (split_rows (k0_pay11 X Y) _ t l j ⟨t.val * 128 + l.val, by omega⟩ rfl).trans (grad_at X Y _ j)

/-- The exponent of a column group's scale. -/
theorem pay8_at (t : Fin 104) (j : Fin 10240) : k0_pay8 (k0_pay11 X Y) (ix2 t j) = refE (cQ X Y t j) := by
  unfold k0_pay8
  refine (expo_pw _ _).trans (congrArg refE ((part_pw _ _).trans ?_))
  refine (congrArg (fun z : EReal => z * Ideal.ofBits .f32 0x3B124925#32) (max_rows (absf (k0_pay7 (k0_pay11 X Y))) 0xFF800000#32 reduces_S104x128x10240_S104x10240 (.inl rfl) rfl t j)).trans ?_
  refine congrArg (fun f : Fin 128 → EReal => (Finset.univ : Finset (Fin 128)).fold max (Ideal.ofBits .f32 0xFF800000#32) f * Ideal.ofBits .f32 0x3B124925#32) (funext fun l => ?_)
  rw [absf_pw, pay7_at X Y t l j]

theorem pay9_at (j : Fin 10240) (i : Fin 13312) : k0_pay9 (k0_pay11 X Y) (ix2 j i) = R2 X Y j i := by
  have hi : i.val = i.val / 128 * 128 + i.val % 128 := by omega
  unfold k0_pay9
  refine (transposed _ transposes_S13312x10240_p1_0_S10240x13312 i j).trans ?_
  refine (merge_rows _ shapeCasts_S104x128x10240_S13312x10240 ⟨i.val / 128, by omega⟩ ⟨i.val % 128, by omega⟩ j i hi).trans ?_
  refine (code_pw _ _ _).trans ?_
  have h3 : (⟨i.val / 128 * 128 + i.val % 128, by omega⟩ : Fin 13312) = i := Fin.ext hi.symm
  unfold R2
  rw [pay7_at, h3]
  refine congrArg (codeOf (D X Y i j)) ?_
  refine (repeat_rows _ shapeCasts_S104x10240_S104x1x10240 broadcasts_S104x1x10240_S104x128x10240 ⟨i.val / 128, by omega⟩ ⟨i.val % 128, by omega⟩ j).trans ?_
  rw [inv_pw, pay8_at]; rfl

theorem pay10_at (j : Fin 10240) (t : Fin 104) : k0_pay10 (k0_pay11 X Y) (ix2 j t) = R3 X Y j t := by
  unfold k0_pay10
  refine (transposed _ transposes_S104x10240_p1_0_S10240x104 t j).trans ?_
  rw [exp2_pw, pay8_at]; rfl

theorem pay5_at (i : Fin 13312) (k : Fin 80) : k0_pay5 (k0_pay3 (A0 X) (A1 X) (A2 Y)) (ix2 i k) = R1 X Y i k := by
  unfold k0_pay5
  rw [exp2_pw, pay3_at]; rfl

theorem zero2 : (![0, 0] : Fin 2 → ℕ) = fun _ => 0 := by
  funext a; match a with
  | ⟨0, _⟩ => rfl
  | ⟨1, _⟩ => rfl

/-! ## The four buffers -/

theorem out2_at (i : Fin 13312) (j : Fin 10240) : out0_2 X Y (ix2 i j) = R0 X Y i j := by
  unfold out0_2; rw [View.canon_cons_unit_zero zero2]; exact pay6_at X Y i j
theorem out3_at (i : Fin 13312) (k : Fin 80) : out0_3 X Y (ix2 i k) = R1 X Y i k := by
  unfold out0_3; rw [View.canon_cons_unit_zero zero2]; exact pay5_at X Y i k
theorem out4_at (j : Fin 10240) (i : Fin 13312) : out0_4 X Y (ix2 j i) = R2 X Y j i := by
  unfold out0_4; rw [View.canon_cons_unit_zero zero2]; exact pay9_at X Y j i
theorem out5_at (j : Fin 10240) (t : Fin 104) : out0_5 X Y (ix2 j t) = R3 X Y j t := by
  unfold out0_5; rw [View.canon_cons_unit_zero zero2]; exact pay10_at X Y j t

end

end Cert.ReferenceIdeal.Val

end
-- ==== Proof.RefArr.lean ====
module

public import proofs.«01_k».proof.Proof.RefValue
public import Idealize.ShloMosaic.Lib.Pipeline.ValueKit
public import Idealize.ShloMosaic.Lib.Claim

/-! The reference's four result arrays after the run, over the extended reals. -/

@[expose] public section

set_option maxRecDepth 16384

noncomputable section

namespace Cert.ReferenceIdeal.Val

open Cert.ReferenceIdeal.Gen Cert.Scale Cert.Spec Cert.Layout
open Idealize.ShloMosaic hiding ix2 ix3
open Idealize.ShloMosaic.TcCoe Idealize.ShloMosaic.ValueIdx
open Idealize.SL.Sem

variable (m : (ℓ : Loc nD τ sig) → Buf (Elt Ideal) ℓ)

/-- The two arguments as matrices, as the launch finds them. -/
def inX (c : Dev nD) : MX := V m c main_v0
def inY (c : Dev nD) : MY := V m c main_v1

theorem inX_eq (c : Dev nD) : inX m c = shapeCast S13312x10240 (m ((c.tc : Thread nD τ).loc main_arg0)) shapeCasts_S13x1024x10240_S13312x10240 := by
  unfold inX
  entry_read
  try rfl
theorem inY_eq (c : Dev nD) : inY m c = shapeCast S13312x5120 (m ((c.tc : Thread nD τ).loc main_arg1)) shapeCasts_S13x1024x5120_S13312x5120 := by
  unfold inY
  entry_read
  try rfl

theorem idx0 : ∀ t, win0_0.index t = ![0, 0] := by decide +kernel
theorem idx1 : ∀ t, win0_1.index t = ![0, 0] := by decide +kernel
theorem idx2 : ∀ t, win0_2.index t = ![0, 0] := by decide +kernel
theorem idx3 : ∀ t, win0_3.index t = ![0, 0] := by decide +kernel
theorem idx4 : ∀ t, win0_4.index t = ![0, 0] := by decide +kernel
theorem idx5 : ∀ t, win0_5.index t = ![0, 0] := by decide +kernel

/-- The one block of each argument is the whole matrix. -/
theorem blk0 (c : Dev nD) (t : Fin cfg0.N) : (iblk m c 0 t : Vec Ideal S13312x10240 .bf16) = inX m c := by
  funext y
  unfold iblk inX
  blk_simp
  refine congrArg (V m c main_v0) ?_
  blk_ext [idx0 t]

theorem blk1 (c : Dev nD) (t : Fin cfg0.N) : (iblk m c 1 t : Vec Ideal S13312x5120 .bf16) = inY m c := by
  funext y
  unfold iblk inY
  blk_simp
  refine congrArg (V m c main_v1) ?_
  blk_ext [idx1 t]

/-- The one block of each result is the whole array. -/
theorem emb2 (t : Fin cfg0.N) (y : S13312x10240.Idx) : ((win0_2.blk t).view.emb y : S13312x10240.Idx) = y := by
  blk_ext [idx2 t]
theorem emb3 (t : Fin cfg0.N) (y : S13312x80.Idx) : ((win0_3.blk t).view.emb y : S13312x80.Idx) = y := by
  blk_ext [idx3 t]
theorem emb4 (t : Fin cfg0.N) (y : S10240x13312.Idx) : ((win0_4.blk t).view.emb y : S10240x13312.Idx) = y := by
  blk_ext [idx4 t]
theorem emb5 (t : Fin cfg0.N) (y : S10240x104.Idx) : ((win0_5.blk t).view.emb y : S10240x104.Idx) = y := by
  blk_ext [idx5 t]

theorem out2_of {X X' : MX} {Y Y' : MY} (hx : X' = X) (hy : Y' = Y) (y : S13312x10240.Idx) :
    out0_2 (F := Ideal) X' Y' y = R0 X Y (y 0) (y 1) := by
  subst hx hy
  obtain ⟨a, b, rfl⟩ : ∃ a b, y = ix2 a b := ⟨_, _, ValueIdx.eq_ix2 y⟩
  exact out2_at _ _ a b
theorem out3_of {X X' : MX} {Y Y' : MY} (hx : X' = X) (hy : Y' = Y) (y : S13312x80.Idx) :
    out0_3 (F := Ideal) X' Y' y = R1 X Y (y 0) (y 1) := by
  subst hx hy
  obtain ⟨a, b, rfl⟩ : ∃ a b, y = ix2 a b := ⟨_, _, ValueIdx.eq_ix2 y⟩
  exact out3_at _ _ a b
theorem out4_of {X X' : MX} {Y Y' : MY} (hx : X' = X) (hy : Y' = Y) (y : S10240x13312.Idx) :
    out0_4 (F := Ideal) X' Y' y = R2 X Y (y 0) (y 1) := by
  subst hx hy
  obtain ⟨a, b, rfl⟩ : ∃ a b, y = ix2 a b := ⟨_, _, ValueIdx.eq_ix2 y⟩
  exact out4_at _ _ a b
theorem out5_of {X X' : MX} {Y Y' : MY} (hx : X' = X) (hy : Y' = Y) (y : S10240x104.Idx) :
    out0_5 (F := Ideal) X' Y' y = R3 X Y (y 0) (y 1) := by
  subst hx hy
  obtain ⟨a, b, rfl⟩ : ∃ a b, y = ix2 a b := ⟨_, _, ValueIdx.eq_ix2 y⟩
  exact out5_at _ _ a b

theorem arr2 (c : Dev nD) :
    (dats m 0 c).arrAt 2 cfg0.N = fun y : S13312x10240.Idx => R0 (inX m c) (inY m c) (y 0) (y 1) := by
  refine (dats m 0 c).arrAt_eq_of_covers 2 _ (by decide +kernel) fun t hf y => ?_
  blk_simp
  rw [after0_2]
  refine (out2_of (blk0 m c t) (blk1 m c t) y).trans ?_
  exact congrArg (fun z : S13312x10240.Idx => R0 (inX m c) (inY m c) (z 0) (z 1)) (emb2 t y).symm

theorem arr3 (c : Dev nD) :
    (dats m 0 c).arrAt 3 cfg0.N = fun y : S13312x80.Idx => R1 (inX m c) (inY m c) (y 0) (y 1) := by
  refine (dats m 0 c).arrAt_eq_of_covers 3 _ (by decide +kernel) fun t hf y => ?_
  blk_simp
  rw [after0_3]
  refine (out3_of (blk0 m c t) (blk1 m c t) y).trans ?_
  exact congrArg (fun z : S13312x80.Idx => R1 (inX m c) (inY m c) (z 0) (z 1)) (emb3 t y).symm

theorem arr4 (c : Dev nD) :
    (dats m 0 c).arrAt 4 cfg0.N = fun y : S10240x13312.Idx => R2 (inX m c) (inY m c) (y 0) (y 1) := by
  refine (dats m 0 c).arrAt_eq_of_covers 4 _ (by decide +kernel) fun t hf y => ?_
  blk_simp
  rw [after0_4]
  refine (out4_of (blk0 m c t) (blk1 m c t) y).trans ?_
  exact congrArg (fun z : S10240x13312.Idx => R2 (inX m c) (inY m c) (z 0) (z 1)) (emb4 t y).symm

theorem arr5 (c : Dev nD) :
    (dats m 0 c).arrAt 5 cfg0.N = fun y : S10240x104.Idx => R3 (inX m c) (inY m c) (y 0) (y 1) := by
  refine (dats m 0 c).arrAt_eq_of_covers 5 _ (by decide +kernel) fun t hf y => ?_
  blk_simp
  rw [after0_5]
  refine (out5_of (blk0 m c t) (blk1 m c t) y).trans ?_
  exact congrArg (fun z : S10240x104.Idx => R3 (inX m c) (inY m c) (z 0) (z 1)) (emb5 t y).symm

end Cert.ReferenceIdeal.Val

end
-- ==== Proof.Bound.lean ====
module

public import proofs.«01_k».proof.Defs
public import proofs.«01_k».proof.Proof.Spec
public import Idealize.ShloMosaic.Lib.Pointwise

/-! What the precondition says of an argument's entries: they are reals of size at most 2^64. -/

@[expose] public section

set_option maxRecDepth 16384

noncomputable section

namespace Cert.Bound

open Cert.Scale Cert.Spec
open Idealize.ShloMosaic hiding ix2 ix3

/-- The bound's bits are 2^64. -/
theorem ofBits_bound : Ideal.ofBits .bf16 0x5F80#16 = (((2:ℝ)^64 : ℝ) : EReal) := by
  show Ideal.ieee 8 7 0x5F80#16 = _
  have e1 : BitVec.extractLsb' (8 + 7) 1 0x5F80#16 = 0#1 := by decide
  have e2 : (BitVec.extractLsb' 7 8 0x5F80#16).toNat = 191 := by decide
  have e3 : (BitVec.extractLsb' 0 7 0x5F80#16).toNat = 0 := by decide
  unfold Ideal.ieee
  simp only [e1, e2, e3]
  rw [if_neg (by omega), if_neg (by omega), EReal.coe_eq_coe_iff]
  have hb : ((0#1 : BitVec 1) == 1#1) = false := rfl
  rw [hb]
  norm_num

/-- An entry whose absolute value is at most the bound is a real of that size. -/
theorem small_of_le {x : EReal} (h : max x (-x) ≤ (((2:ℝ)^64 : ℝ) : EReal)) : Small (2^64) x := by
  induction x with
  | bot => exact absurd ((le_max_right _ _).trans h) (by rw [EReal.neg_bot, not_le]; exact EReal.coe_lt_top _)
  | top => exact absurd ((le_max_left _ _).trans h) (by rw [not_le]; exact EReal.coe_lt_top _)
  | coe r =>
    refine ⟨r, rfl, ?_⟩
    rw [max_le_iff, ← EReal.coe_neg, EReal.coe_le_coe_iff, EReal.coe_le_coe_iff] at h
    exact abs_le.2 ⟨by linarith [h.2], h.1⟩

/-- A comparison that holds at an element, as the order of the extended reals. -/
theorem le_of_cmpf {s : Shape} {e : FTy} (x y : FVec Ideal s e) (i : s.Idx) (h : cmpf .ole (Host.absf x) y i = 1#1) :
    max (x i : EReal) (-x i) ≤ y i := by
  have e1 : cmpf .ole (Host.absf x) y i = if max (x i : EReal) (-x i) ≤ y i then 1#1 else 0#1 := by
    pointwise
    show BitVec.ofBool (decide (max (x i : EReal) (-x i) ≤ y i)) = _
    by_cases hc : max (x i : EReal) (-x i) ≤ y i
    · rw [decide_eq_true hc, if_pos hc]; rfl
    · rw [decide_eq_false hc, if_neg hc]; rfl
  rw [e1] at h
  by_contra hn
  rw [if_neg hn] at h
  exact absurd h (by decide)

variable [Cert.Pre_inputs_bounded.Facts]

/-- The precondition's first result: the first argument's entries are reals of size at most 2^64. -/
theorem small0 (x : FVec Ideal Cert.Pre_inputs_bounded.S13x1024x10240 .bf16) (d : FVec Ideal Cert.Pre_inputs_bounded.S13x1024x5120 .bf16)
    (h : (Cert.Pre_inputs_bounded.fn (F := Ideal) x d).1 = fun _ => 1#1) (i) : Small (2^64) (x i) :=
  small_of_le ((le_of_cmpf x _ i (congrFun h i)).trans ofBits_bound.le)

/-- The precondition's second result, of the second argument. -/
theorem small1 (x : FVec Ideal Cert.Pre_inputs_bounded.S13x1024x10240 .bf16) (d : FVec Ideal Cert.Pre_inputs_bounded.S13x1024x5120 .bf16)
    (h : (Cert.Pre_inputs_bounded.fn (F := Ideal) x d).2 = fun _ => 1#1) (i) : Small (2^64) (d i) :=
  small_of_le ((le_of_cmpf d _ i (congrFun h i)).trans ofBits_bound.le)

end Cert.Bound

end
-- ==== Proof.lean ====
module

public import proofs.«01_k».proof.Defs
public import proofs.«01_k».proof.Proof.Kernel.Body
public import proofs.«01_k».proof.Proof.KerValue
public import proofs.«01_k».proof.Proof.RefArr
public import proofs.«01_k».proof.Proof.Bound

/-! The certificate: the three programs' frames, and the four results of the kernel and of the reference equal over the
extended reals. -/

@[expose] public section

set_option maxRecDepth 16384

noncomputable section

namespace Cert.Proof

open Idealize.ShloMosaic Idealize.SL.Sem Cert.Spec Cert.Scale

/-- The side conditions that the precondition states. -/
theorem preFacts : Cert.Pre_inputs_bounded.Facts := ⟨by decide, by decide⟩

/-- An array regrouped has the same entries. -/
theorem small_shapeCast {s t : Shape} (v : s.Idx → EReal) (h : s.ShapeCasts t) (B : ℝ) (hv : ∀ i, Small B (v i)) (j : t.Idx) :
    Small B (shapeCast t v h j) := by
  obtain ⟨k, e⟩ : ∃ k, shapeCast t v h j = v k := ⟨_, rfl⟩
  rw [e]; exact hv k

/-- Under the precondition the kernel's two argument matrices have real entries of size at most 2^64. -/
theorem bounded [Cert.Pre_inputs_bounded.Facts]
    (m : (ℓ : Loc Cert.KernelIdeal.nD Cert.KernelIdeal.τ Cert.KernelIdeal.sig) → Buf (Elt Ideal) ℓ)
    (h : Pre_KernelIdeal_inputs_bounded m) (c : Dev Cert.KernelIdeal.nD) :
    Bounded (Cert.KernelIdeal.Val.inX m c) (Cert.KernelIdeal.Val.inY m c) := by
  rw [Cert.KernelIdeal.Val.inX_eq, Cert.KernelIdeal.Val.inY_eq]
  exact ⟨small_shapeCast _ _ _ (Cert.Bound.small0 _ _ (h c).1), small_shapeCast _ _ _ (Cert.Bound.small1 _ _ (h c).2)⟩

/-- The kernel and the reference, from arguments that agree and that the precondition bounds, end with the same four
    results. -/
theorem algebraic [hPre : Cert.Pre_inputs_bounded.Facts] :
    algebraic_KernelIdeal_ReferenceIdeal_pre_inputs_bounded (hKernelIdeal := Cert.KernelIdeal.Gen.facts)
      (hReferenceIdeal := Cert.ReferenceIdeal.Gen.facts) (hPre_inputs_bounded := hPre) := by
  intro m g m' g' hpre hag
  have eX : ∀ c, Cert.ReferenceIdeal.Val.inX m' c = Cert.KernelIdeal.Val.inX m c := fun c => by
    rw [Cert.ReferenceIdeal.Val.inX_eq, Cert.KernelIdeal.Val.inX_eq, (hag c).1]
  have eY : ∀ c, Cert.ReferenceIdeal.Val.inY m' c = Cert.KernelIdeal.Val.inY m c := fun c => by
    rw [Cert.ReferenceIdeal.Val.inY_eq, Cert.KernelIdeal.Val.inY_eq, (hag c).2]
  refine ⟨fun c => (Cert.KernelIdeal.Hand.dats m 0 c).arrAt 2 Cert.KernelIdeal.cfg0.N,
    fun c => (Cert.KernelIdeal.Hand.dats m 0 c).arrAt 3 Cert.KernelIdeal.cfg0.N,
    fun c => (Cert.KernelIdeal.Hand.dats m 0 c).arrAt 4 Cert.KernelIdeal.cfg0.N,
    fun c => (Cert.KernelIdeal.Hand.dats m 0 c).arrAt 5 Cert.KernelIdeal.cfg0.N, ?_, ?_⟩
  · refine (θ_run _ _ _).mono ?_ (Cert.KernelIdeal.Hand.run_main m g)
    intro r h c
    exact ⟨(h c).1 2, (h c).1 3, (h c).1 4, (h c).1 5,
      ((h c).2 Cert.KernelIdeal.main_arg0 (Pipeline.mem_restRefs_of Cert.KernelIdeal.main_arg0 (by decide) (by decide))).trans
        (Cert.KernelIdeal.Gen.V_main_arg0 m c),
      ((h c).2 Cert.KernelIdeal.main_arg1 (Pipeline.mem_restRefs_of Cert.KernelIdeal.main_arg1 (by decide) (by decide))).trans
        (Cert.KernelIdeal.Gen.V_main_arg1 m c)⟩
  · refine (θ_run _ _ _).mono ?_ (Cert.ReferenceIdeal.Gen.run_main m' g')
    intro r h c
    have hb := bounded m hpre c
    refine ⟨((h c).1 2).trans ((Cert.ReferenceIdeal.Val.arr2 m' c).trans ?_),
      ((h c).1 3).trans ((Cert.ReferenceIdeal.Val.arr3 m' c).trans ?_),
      ((h c).1 4).trans ((Cert.ReferenceIdeal.Val.arr4 m' c).trans ?_),
      ((h c).1 5).trans ((Cert.ReferenceIdeal.Val.arr5 m' c).trans ?_),
      ((h c).2 Cert.ReferenceIdeal.main_arg0 (Pipeline.mem_restRefs_of Cert.ReferenceIdeal.main_arg0 (by decide) (by decide))).trans
        (Cert.ReferenceIdeal.Gen.V_main_arg0 m' c),
      ((h c).2 Cert.ReferenceIdeal.main_arg1 (Pipeline.mem_restRefs_of Cert.ReferenceIdeal.main_arg1 (by decide) (by decide))).trans
        (Cert.ReferenceIdeal.Gen.V_main_arg1 m' c)⟩
    · rw [eX c, eY c]; exact (Cert.KernelIdeal.Val.arr2 m c hb).symm
    · rw [eX c, eY c]; exact (Cert.KernelIdeal.Val.arr3 m c hb).symm
    · rw [eX c, eY c]; exact (Cert.KernelIdeal.Val.arr4 m c hb).symm
    · rw [eX c, eY c]; exact (Cert.KernelIdeal.Val.arr5 m c hb).symm

theorem claim : Cert.Claim :=
  ⟨Cert.Kernel.Gen.facts, Cert.KernelIdeal.Gen.facts, Cert.ReferenceIdeal.Gen.facts, preFacts,
    fun m ρ _ => Cert.Kernel.Hand.frame m ρ,
    fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ,
    trivial, algebraic (hPre := preFacts)⟩

end Cert.Proof

end
